-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S2 : Shape := ⟨1, ![2]⟩
abbrev S_ : Shape := ⟨0, ![]⟩
abbrev S512x1024 : Shape := ⟨2, ![512, 1024]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S4096x1024, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.subi v2 c0_i32_10
  let c8_i32 : BitVec 32 := 8#32
  let v14 : BitVec 32 := Scalar.addi v13 c8_i32
  let c4_i32_11 : BitVec 32 := 4#32
  let v15 : BitVec 32 := Scalar.remsi v14 c4_i32_11
  let c1024_i32 : BitVec 32 := 1024#32
  let v18 : BitVec 32 := Scalar.muli v15 c1024_i32
  let v19 : BitVec 32 := Scalar.addi v18 c0_i32_14
  let v20 : Index := Scalar.indexCast v19
  let c0 : Index := 0#32
  ![v20.toNat, 0]
def k0_off2 (d0 : Dev nD) (c0_i32_12 : BitVec 32) (c0_i32_20 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c0_i32_12
  let c4_i32_13 : BitVec 32 := 4#32
  let v17 : BitVec 32 := Scalar.remsi v16 c4_i32_13
  let c1024_i32_19 : BitVec 32 := 1024#32
  let v29 : BitVec 32 := Scalar.muli v17 c1024_i32_19
  let v30 : BitVec 32 := Scalar.addi v29 c0_i32_20
  let v31 : Index := Scalar.indexCast v30
  let c0_21 : Index := 0#32
  ![v31.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v40 : BitVec 32 := Scalar.muli v7 c1_i32_28
  let v41 : BitVec 32 := Scalar.addi c0_i32_29 v40
  v41.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_36 : BitVec 32 := 1#32
  let v48 : BitVec 32 := Scalar.muli v5 c1_i32_36
  let v49 : BitVec 32 := Scalar.addi c0_i32_37 v48
  v49.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_58 : BitVec 32 := 1#32
  let v78 : BitVec 32 := Scalar.muli v7 c1_i32_58
  let v79 : BitVec 32 := Scalar.addi c0_i32_59 v78
  v79.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_66 : BitVec 32 := 1#32
  let v86 : BitVec 32 := Scalar.muli v5 c1_i32_66
  let v87 : BitVec 32 := Scalar.addi c0_i32_67 v86
  v87.toNat
def k0_dev7 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_157 : BitVec 32 := 1#32
  let v180 : BitVec 32 := Scalar.muli v5 c1_i32_157
  let v181 : BitVec 32 := Scalar.addi c0_i32_158 v180
  v181.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_160 : BitVec 32 := 1#32
  let v182 : BitVec 32 := Scalar.muli v7 c1_i32_160
  let v183 : BitVec 32 := Scalar.addi c0_i32_161 v182
  v183.toNat
def k0_dev9 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_168 : BitVec 32 := 1#32
  let v184 : BitVec 32 := Scalar.muli v7 c1_i32_168
  let v185 : BitVec 32 := Scalar.addi c0_i32_169 v184
  v185.toNat
def k0_dev10 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_176 : BitVec 32 := 1#32
  let v192 : BitVec 32 := Scalar.muli v5 c1_i32_176
  let v193 : BitVec 32 := Scalar.addi c0_i32_177 v192
  v193.toNat
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_225 : BitVec 32 := 1#32
  let v232 : BitVec 32 := Scalar.muli v5 c1_i32_225
  let v233 : BitVec 32 := Scalar.addi c0_i32_226 v232
  v233.toNat
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_228 : BitVec 32 := 1#32
  let v234 : BitVec 32 := Scalar.muli v7 c1_i32_228
  let v235 : BitVec 32 := Scalar.addi c0_i32_229 v234
  v235.toNat
def k0_dev13 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_236 : BitVec 32 := 1#32
  let v236 : BitVec 32 := Scalar.muli v7 c1_i32_236
  let v237 : BitVec 32 := Scalar.addi c0_i32_237 v236
  v237.toNat
def k0_dev14 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_244 : BitVec 32 := 1#32
  let v244 : BitVec 32 := Scalar.muli v5 c1_i32_244
  let v245 : BitVec 32 := Scalar.addi c0_i32_245 v244
  v245.toNat
def k0_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_335 : BitVec 32 := 1#32
  let v338 : BitVec 32 := Scalar.muli v5 c1_i32_335
  let v339 : BitVec 32 := Scalar.addi c0_i32_336 v338
  v339.toNat
def k0_dev16 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_338 : BitVec 32 := 1#32
  let v340 : BitVec 32 := Scalar.muli v7 c1_i32_338
  let v341 : BitVec 32 := Scalar.addi c0_i32_339 v340
  v341.toNat
def k0_dev17 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_346 : BitVec 32 := 1#32
  let v342 : BitVec 32 := Scalar.muli v7 c1_i32_346
  let v343 : BitVec 32 := Scalar.addi c0_i32_347 v342
  v343.toNat
def k0_dev18 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_354 : BitVec 32 := 1#32
  let v350 : BitVec 32 := Scalar.muli v5 c1_i32_354
  let v351 : BitVec 32 := Scalar.addi c0_i32_355 v350
  v351.toNat
def k0_dev19 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_403 : BitVec 32 := 1#32
  let v390 : BitVec 32 := Scalar.muli v5 c1_i32_403
  let v391 : BitVec 32 := Scalar.addi c0_i32_404 v390
  v391.toNat
def k0_dev20 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_406 : BitVec 32 := 1#32
  let v392 : BitVec 32 := Scalar.muli v7 c1_i32_406
  let v393 : BitVec 32 := Scalar.addi c0_i32_407 v392
  v393.toNat
def k0_dev21 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_414 : BitVec 32 := 1#32
  let v394 : BitVec 32 := Scalar.muli v7 c1_i32_414
  let v395 : BitVec 32 := Scalar.addi c0_i32_415 v394
  v395.toNat
def k0_dev22 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_422 : BitVec 32 := 1#32
  let v402 : BitVec 32 := Scalar.muli v5 c1_i32_422
  let v403 : BitVec 32 := Scalar.addi c0_i32_423 v402
  v403.toNat
def k0_off3 (d0 : Dev nD) (c0_i32_433 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_428 : BitVec 32 := 1#32
  let v410 : BitVec 32 := Scalar.addi v2 c1_i32_428
  let c0_i32_429 : BitVec 32 := 0#32
  let v411 : BitVec 32 := Scalar.subi v410 c0_i32_429
  let c8_i32_430 : BitVec 32 := 8#32
  let v412 : BitVec 32 := Scalar.addi v411 c8_i32_430
  let c4_i32_431 : BitVec 32 := 4#32
  let v413 : BitVec 32 := Scalar.remsi v412 c4_i32_431
  let c1024_i32_432 : BitVec 32 := 1024#32
  let v414 : BitVec 32 := Scalar.muli v413 c1024_i32_432
  let v415 : BitVec 32 := Scalar.addi v414 c0_i32_433
  let v416 : Index := Scalar.indexCast v415
  let c0_434 : Index := 0#32
  ![v416.toNat, 0]
def k0_off4 (d0 : Dev nD) (c0_i32_445 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_440 : BitVec 32 := 1#32
  let v425 : BitVec 32 := Scalar.subi v2 c1_i32_440
  let c0_i32_441 : BitVec 32 := 0#32
  let v426 : BitVec 32 := Scalar.addi v425 c0_i32_441
  let c8_i32_442 : BitVec 32 := 8#32
  let v427 : BitVec 32 := Scalar.addi v426 c8_i32_442
  let c4_i32_443 : BitVec 32 := 4#32
  let v428 : BitVec 32 := Scalar.remsi v427 c4_i32_443
  let c1024_i32_444 : BitVec 32 := 1024#32
  let v429 : BitVec 32 := Scalar.muli v428 c1024_i32_444
  let v430 : BitVec 32 := Scalar.addi v429 c0_i32_445
  let v431 : Index := Scalar.indexCast v430
  let c0_446 : Index := 0#32
  ![v431.toNat, 0]
def k0_off5 (d0 : Dev nD) (c0_i32_477 : BitVec 32) (c0_i32_529 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_476 : BitVec 32 := 1#32
  let v470 : BitVec 32 := Scalar.addi v2 c1_i32_476
  let v471 : BitVec 32 := Scalar.subi v470 c0_i32_477
  let c8_i32_478 : BitVec 32 := 8#32
  let v472 : BitVec 32 := Scalar.addi v471 c8_i32_478
  let c4_i32_479 : BitVec 32 := 4#32
  let v473 : BitVec 32 := Scalar.remsi v472 c4_i32_479
  let c1024_i32_528 : BitVec 32 := 1024#32
  let v514 : BitVec 32 := Scalar.muli v473 c1024_i32_528
  let v515 : BitVec 32 := Scalar.addi v514 c0_i32_529
  let c0_i32_533 : BitVec 32 := 0#32
  ![v515.toNat, 0]
def k0_off6 (d0 : Dev nD) (c0_i32_481 : BitVec 32) (c0_i32_531 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_480 : BitVec 32 := 1#32
  let v474 : BitVec 32 := Scalar.subi v2 c1_i32_480
  let v475 : BitVec 32 := Scalar.addi v474 c0_i32_481
  let c8_i32_482 : BitVec 32 := 8#32
  let v476 : BitVec 32 := Scalar.addi v475 c8_i32_482
  let c4_i32_483 : BitVec 32 := 4#32
  let v477 : BitVec 32 := Scalar.remsi v476 c4_i32_483
  let c1024_i32_530 : BitVec 32 := 1024#32
  let v516 : BitVec 32 := Scalar.muli v477 c1024_i32_530
  let v517 : BitVec 32 := Scalar.addi v516 c0_i32_531
  let c1024_i32_537 : BitVec 32 := 1024#32
  ![v517.toNat, 1024]
def k0_dev23 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_541 : BitVec 32 := 1#32
  let v526 : BitVec 32 := Scalar.muli v5 c1_i32_541
  let v527 : BitVec 32 := Scalar.addi c0_i32_542 v526
  v527.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_544 : BitVec 32 := 1#32
  let v528 : BitVec 32 := Scalar.muli v7 c1_i32_544
  let v529 : BitVec 32 := Scalar.addi c0_i32_545 v528
  v529.toNat
def k0_dev25 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_552 : BitVec 32 := 1#32
  let v530 : BitVec 32 := Scalar.muli v7 c1_i32_552
  let v531 : BitVec 32 := Scalar.addi c0_i32_553 v530
  v531.toNat
def k0_dev26 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_560 : BitVec 32 := 1#32
  let v538 : BitVec 32 := Scalar.muli v5 c1_i32_560
  let v539 : BitVec 32 := Scalar.addi c0_i32_561 v538
  v539.toNat
def k0_dev27 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_623 : BitVec 32 := 1#32
  let v594 : BitVec 32 := Scalar.muli v5 c1_i32_623
  let v595 : BitVec 32 := Scalar.addi c0_i32_624 v594
  v595.toNat
def k0_dev28 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_626 : BitVec 32 := 1#32
  let v596 : BitVec 32 := Scalar.muli v7 c1_i32_626
  let v597 : BitVec 32 := Scalar.addi c0_i32_627 v596
  v597.toNat
def k0_dev29 (d0 : Dev nD) : Nat :=
  let c0_i32_635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_634 : BitVec 32 := 1#32
  let v598 : BitVec 32 := Scalar.muli v7 c1_i32_634
  let v599 : BitVec 32 := Scalar.addi c0_i32_635 v598
  v599.toNat
def k0_dev30 (d0 : Dev nD) : Nat :=
  let c0_i32_643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_642 : BitVec 32 := 1#32
  let v606 : BitVec 32 := Scalar.muli v5 c1_i32_642
  let v607 : BitVec 32 := Scalar.addi c0_i32_643 v606
  v607.toNat
def k0_dev31 (d0 : Dev nD) : Nat :=
  let c0_i32_716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_715 : BitVec 32 := 1#32
  let v670 : BitVec 32 := Scalar.muli v5 c1_i32_715
  let v671 : BitVec 32 := Scalar.addi c0_i32_716 v670
  v671.toNat
def k0_dev32 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_718 : BitVec 32 := 1#32
  let v672 : BitVec 32 := Scalar.muli v7 c1_i32_718
  let v673 : BitVec 32 := Scalar.addi c0_i32_719 v672
  v673.toNat
def k0_dev33 (d0 : Dev nD) : Nat :=
  let c0_i32_727 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_726 : BitVec 32 := 1#32
  let v674 : BitVec 32 := Scalar.muli v7 c1_i32_726
  let v675 : BitVec 32 := Scalar.addi c0_i32_727 v674
  v675.toNat
def k0_dev34 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_734 : BitVec 32 := 1#32
  let v682 : BitVec 32 := Scalar.muli v5 c1_i32_734
  let v683 : BitVec 32 := Scalar.addi c0_i32_735 v682
  v683.toNat
def k0_dev35 (d0 : Dev nD) : Nat :=
  let c0_i32_800 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_799 : BitVec 32 := 1#32
  let v738 : BitVec 32 := Scalar.muli v5 c1_i32_799
  let v739 : BitVec 32 := Scalar.addi c0_i32_800 v738
  v739.toNat
def k0_dev36 (d0 : Dev nD) : Nat :=
  let c0_i32_803 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_802 : BitVec 32 := 1#32
  let v740 : BitVec 32 := Scalar.muli v7 c1_i32_802
  let v741 : BitVec 32 := Scalar.addi c0_i32_803 v740
  v741.toNat
def k0_dev37 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_810 : BitVec 32 := 1#32
  let v742 : BitVec 32 := Scalar.muli v7 c1_i32_810
  let v743 : BitVec 32 := Scalar.addi c0_i32_811 v742
  v743.toNat
def k0_dev38 (d0 : Dev nD) : Nat :=
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_818 : BitVec 32 := 1#32
  let v750 : BitVec 32 := Scalar.muli v5 c1_i32_818
  let v751 : BitVec 32 := Scalar.addi c0_i32_819 v750
  v751.toNat
def k0_dev39 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_891 : BitVec 32 := 1#32
  let v814 : BitVec 32 := Scalar.muli v5 c1_i32_891
  let v815 : BitVec 32 := Scalar.addi c0_i32_892 v814
  v815.toNat
def k0_dev40 (d0 : Dev nD) : Nat :=
  let c0_i32_895 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_894 : BitVec 32 := 1#32
  let v816 : BitVec 32 := Scalar.muli v7 c1_i32_894
  let v817 : BitVec 32 := Scalar.addi c0_i32_895 v816
  v817.toNat
def k0_dev41 (d0 : Dev nD) : Nat :=
  let c0_i32_903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_902 : BitVec 32 := 1#32
  let v818 : BitVec 32 := Scalar.muli v7 c1_i32_902
  let v819 : BitVec 32 := Scalar.addi c0_i32_903 v818
  v819.toNat
def k0_dev42 (d0 : Dev nD) : Nat :=
  let c0_i32_911 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_910 : BitVec 32 := 1#32
  let v826 : BitVec 32 := Scalar.muli v5 c1_i32_910
  let v827 : BitVec 32 := Scalar.addi c0_i32_911 v826
  v827.toNat
def k0_dev43 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_975 : BitVec 32 := 1#32
  let v882 : BitVec 32 := Scalar.muli v5 c1_i32_975
  let v883 : BitVec 32 := Scalar.addi c0_i32_976 v882
  v883.toNat
def k0_dev44 (d0 : Dev nD) : Nat :=
  let c0_i32_979 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_978 : BitVec 32 := 1#32
  let v884 : BitVec 32 := Scalar.muli v7 c1_i32_978
  let v885 : BitVec 32 := Scalar.addi c0_i32_979 v884
  v885.toNat
def k0_dev45 (d0 : Dev nD) : Nat :=
  let c0_i32_987 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_986 : BitVec 32 := 1#32
  let v886 : BitVec 32 := Scalar.muli v7 c1_i32_986
  let v887 : BitVec 32 := Scalar.addi c0_i32_987 v886
  v887.toNat
def k0_dev46 (d0 : Dev nD) : Nat :=
  let c0_i32_995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_994 : BitVec 32 := 1#32
  let v894 : BitVec 32 := Scalar.muli v5 c1_i32_994
  let v895 : BitVec 32 := Scalar.addi c0_i32_995 v894
  v895.toNat
def k0_off7 (d0 : Dev nD) (c0_i32_1027 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1000 : BitVec 32 := 2#32
  let v902 : BitVec 32 := Scalar.addi v2 c2_i32_1000
  let c4_i32_1001 : BitVec 32 := 4#32
  let v903 : BitVec 32 := Scalar.remsi v902 c4_i32_1001
  let c1024_i32_1026 : BitVec 32 := 1024#32
  let v924 : BitVec 32 := Scalar.muli v903 c1024_i32_1026
  let v925 : BitVec 32 := Scalar.addi v924 c0_i32_1027
  let c0_i32_1031 : BitVec 32 := 0#32
  ![v925.toNat, 0]
def k0_off8 (d0 : Dev nD) (c0_i32_1029 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1000 : BitVec 32 := 2#32
  let v902 : BitVec 32 := Scalar.addi v2 c2_i32_1000
  let c4_i32_1001 : BitVec 32 := 4#32
  let v903 : BitVec 32 := Scalar.remsi v902 c4_i32_1001
  let c1024_i32_1028 : BitVec 32 := 1024#32
  let v926 : BitVec 32 := Scalar.muli v903 c1024_i32_1028
  let v927 : BitVec 32 := Scalar.addi v926 c0_i32_1029
  let c1024_i32_1035 : BitVec 32 := 1024#32
  ![v927.toNat, 1024]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/- The kernel's body as a sequence of a few named steps.

   The body runs the same handful of steps for every round `h` (0 to 5), every half `s` of a chunk (512 rows each) and
   both directions of the ring: direction `false` carries the left 1024 columns of the result to the next device,
   direction `true` carries the right 1024 columns to the previous one. Here each step is written once, as a program
   over the direction, the half and the round, and `body_eq` says the printed body is their sequence. -/
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.Regions

@[expose] public section

noncomputable section

namespace Cert.RingIdeal

open Cert.KernelIdeal Cert.KernelIdeal.Gen
open Idealize.ShloMosaic Idealize.ShloMosaic.TcCoe
open Idealize.SL.Sem

variable {F : FTy → Type} [FloatOps F]

/-! ## Buffers, halves and semaphores -/

/-- The staged operands and the result. -/
abbrev xM : Memref sig .tc .vmem S4096x1024 .f32 := Memref.whole cc0_stg0_0
abbrev wM : Memref sig .tc .vmem S1024x2048 .f32 := Memref.whole cc0_stg1_0
abbrev oM : Memref sig .tc .hbm S4096x2048 .f32 := Memref.whole main_v1

/-- Each direction's accumulator, receive buffer and next product. -/
abbrev accR : Bool → Ref sig .tc := fun | false => cc0_scratch0 | true => cc0_scratch1
abbrev recvR : Bool → Ref sig .tc := fun | false => cc0_scratch2 | true => cc0_scratch3
abbrev pnxR : Bool → Ref sig .tc := fun | false => cc0_scratch4 | true => cc0_scratch5
abbrev accM : Bool → Memref sig .tc .vmem S1024x1024 .f32 := fun | false => Memref.whole cc0_scratch0 | true => Memref.whole cc0_scratch1
abbrev recvM : Bool → Memref sig .tc .vmem S1024x1024 .f32 := fun | false => Memref.whole cc0_scratch2 | true => Memref.whole cc0_scratch3
abbrev pnxM : Bool → Memref sig .tc .vmem S1024x1024 .f32 := fun | false => Memref.whole cc0_scratch4 | true => Memref.whole cc0_scratch5

theorem half_inb (s : Fin 2) (a) : (![512 * s.val, 0] : Fin 2 → Nat) a + S512x1024.size a ≤ S1024x1024.size a := by
  revert s a; decide

/-- The 512 rows of half `s`. -/
abbrev half (s : Fin 2) : Rect S1024x1024 := Rect.unit (s := S1024x1024) ![512 * s.val, 0] S512x1024.size (half_inb s)
def halfV (m : Memref sig .tc .vmem S1024x1024 .f32) (s : Fin 2) : Memref sig .tc .vmem S512x1024 .f32 := m.slice (half s) (fun _ => rfl)

/-- The semaphores of the two halves of an array. -/
def semH (a : DmaSems sig S2) : Fin 2 → DmaSem sig := fun
  | 0 => ((a.slice (Rect.unit (s := S2) ![0] S1.size inb_S2_S1_0)).squeeze S_ squeezes_S1_S_).sem
  | 1 => ((a.slice (Rect.unit (s := S2) ![1] S1.size inb_S2_S1_1)).squeeze S_ squeezes_S1_S_).sem
def sendS : Bool → Fin 2 → DmaSem sig := fun | false => semH cc0_scratch6 | true => semH cc0_scratch7
def recvS : Bool → Fin 2 → DmaSem sig := fun | false => semH cc0_scratch8 | true => semH cc0_scratch9
def copyS : Bool → Fin 2 → DmaSem sig := fun | false => semH cc0_scratch10 | true => semH cc0_scratch11
def creditS : Bool → Sem sig := fun | false => cc0_scratch12.sem | true => cc0_scratch13.sem
def barS : Sem sig := (SemArray.scalar (sig.barrier 0 rfl) : Sems sig S_).sem

/-! ## Offsets -/

/-- The row of the operand where the product of round `h` starts, half `s`. -/
def xoff (d : Dev nD) : Bool → Nat → Fin 2 → Fin 2 → Nat
  | false, 0, 0 => k0_off1 d 0#32 0#32
  | false, 0, 1 => k0_off1 d 0#32 512#32
  | false, 1, 0 => k0_off1 d 1#32 0#32
  | false, 1, 1 => k0_off1 d 1#32 512#32
  | false, 2, 0 => k0_off1 d 2#32 0#32
  | false, 2, 1 => k0_off1 d 2#32 512#32
  | false, _, 0 => k0_off3 d 0#32
  | false, _, 1 => k0_off3 d 512#32
  | true, 0, 0 => k0_off2 d 0#32 0#32
  | true, 0, 1 => k0_off2 d 0#32 512#32
  | true, 1, 0 => k0_off2 d 1#32 0#32
  | true, 1, 1 => k0_off2 d 1#32 512#32
  | true, 2, 0 => k0_off2 d 2#32 0#32
  | true, 2, 1 => k0_off2 d 2#32 512#32
  | true, _, 0 => k0_off4 d 0#32
  | true, _, 1 => k0_off4 d 512#32

/-- Where the `i`-th output chunk goes, half `s`. -/
def ooff (d : Dev nD) : Bool → Nat → Fin 2 → Fin 2 → Nat
  | false, 0, 0 => k0_off5 d 0#32 0#32
  | false, 0, 1 => k0_off5 d 0#32 512#32
  | false, 1, 0 => k0_off5 d 1#32 0#32
  | false, 1, 1 => k0_off5 d 1#32 512#32
  | false, 2, 0 => k0_off5 d 2#32 0#32
  | false, 2, 1 => k0_off5 d 2#32 512#32
  | false, _, 0 => k0_off7 d 0#32
  | false, _, 1 => k0_off7 d 512#32
  | true, 0, 0 => k0_off6 d 0#32 0#32
  | true, 0, 1 => k0_off6 d 0#32 512#32
  | true, 1, 0 => k0_off6 d 1#32 0#32
  | true, 1, 1 => k0_off6 d 1#32 512#32
  | true, 2, 0 => k0_off6 d 2#32 0#32
  | true, 2, 1 => k0_off6 d 2#32 512#32
  | true, _, 0 => k0_off8 d 0#32
  | true, _, 1 => k0_off8 d 512#32

theorem xoff_fin (d : Dev nD) (X : Bool) (h : Fin 4) (s : Fin 2) :
    xoff d X h.val s = ![1024 * (if X then (d.val + h.val) % 4 else (d.val + 8 - h.val) % 4) + 512 * s.val, 0] := by
  revert d X h s; decide +kernel

theorem ooff_fin (d : Dev nD) (X : Bool) (i : Fin 4) (s : Fin 2) :
    ooff d X i.val s = ![1024 * (if X then (d.val + i.val + 3) % 4 else (d.val + 5 - i.val) % 4) + 512 * s.val, if X then 1024 else 0] := by
  revert d X i s; decide +kernel

/-- Past the last round both offsets stay where they are. -/
theorem xoff_min (d : Dev nD) (X : Bool) (h : Nat) (s : Fin 2) : xoff d X h s = xoff d X (min h 3) s := by
  match h with
  | 0 | 1 | 2 | 3 => rfl
  | n + 4 => rw [Nat.min_eq_right (by omega)]; cases X <;> match s with | 0 | 1 => rfl
theorem ooff_min (d : Dev nD) (X : Bool) (h : Nat) (s : Fin 2) : ooff d X h s = ooff d X (min h 3) s := by
  match h with
  | 0 | 1 | 2 | 3 => rfl
  | n + 4 => rw [Nat.min_eq_right (by omega)]; cases X <;> match s with | 0 | 1 => rfl

theorem xoff_inb (d : Dev nD) (X : Bool) (h : Nat) (s : Fin 2) (a) :
    xoff d X h s a + S512x1024.size a ≤ S4096x1024.size a := by
  rw [xoff_min]
  exact (by decide +kernel : ∀ (d : Dev nD) (X : Bool) (h : Fin 4) (s : Fin 2) (a),
    xoff d X h.val s a + S512x1024.size a ≤ S4096x1024.size a) d X ⟨min h 3, by omega⟩ s a

theorem ooff_inb (d : Dev nD) (X : Bool) (i : Nat) (s : Fin 2) (a) :
    ooff d X i s a + S512x1024.size a ≤ S4096x2048.size a := by
  rw [ooff_min]
  exact (by decide +kernel : ∀ (d : Dev nD) (X : Bool) (h : Fin 4) (s : Fin 2) (a),
    ooff d X h.val s a + S512x1024.size a ≤ S4096x2048.size a) d X ⟨min i 3, by omega⟩ s a

theorem wrect_inb (X : Bool) (a) : (![0, if X then 1024 else 0] : Fin 2 → Nat) a + S1024x1024.size a ≤ S1024x2048.size a := by
  revert X a; decide

/-- The operand's rows of round `h`, the weights' columns of direction `X`, the result's piece `i`. -/
abbrev xrect (d : Dev nD) (X : Bool) (h : Nat) (s : Fin 2) : Rect S4096x1024 :=
  Rect.unit (s := S4096x1024) (xoff d X h s) S512x1024.size (xoff_inb d X h s)
abbrev wrect (X : Bool) : Rect S1024x2048 :=
  Rect.unit (s := S1024x2048) ![0, if X then 1024 else 0] S1024x1024.size (wrect_inb X)
def outV (d : Dev nD) (X : Bool) (i : Nat) (s : Fin 2) : Memref sig .tc .hbm S512x1024 .f32 :=
  oM.slice (Rect.unit (s := S4096x2048) (ooff d X i s) S512x1024.size (ooff_inb d X i s)) (fun _ => rfl)

/-! ## Values -/

/-- The product of 512 rows of the operand with 1024 columns of the weights. -/
def mul (x : Vec F S512x1024 .f32) (w : Vec F S1024x1024 .f32) : FVec F S512x1024 .f32 :=
  shapeCast S512x1024 (matmul dot_S512x1024_S1024x1024_S512x1024_1_0_0_1_n_n none
    (shapeCast S512x1024 x shapeCasts_S512x1024_S512x1024) (shapeCast S1024x1024 w shapeCasts_S1024x1024_S1024x1024)
    (constant S512x1024 .f32 0x00000000#32)) shapeCasts_S512x1024_S512x1024
def add (a b : Vec F S512x1024 .f32) : FVec F S512x1024 .f32 :=
  shapeCast S512x1024 (addf a b) shapeCasts_S512x1024_S512x1024
def relu (a b : Vec F S512x1024 .f32) : FVec F S512x1024 .f32 :=
  shapeCast S512x1024 (maximumf (addf a b) (broadcast S512x1024 (Scalar.ofBits .f32 0x00000000#32))) shapeCasts_S512x1024_S512x1024
def fwd (a : Vec F S512x1024 .f32) : FVec F S512x1024 .f32 :=
  shapeCast S512x1024 a shapeCasts_S512x1024_S512x1024

/-! ## The steps -/

/-- Load half `s` of a buffer; store it. -/
def ld (m : Memref sig .tc .vmem S1024x1024 .f32) (s : Fin 2) : Prog (TpuEff nD τ sig (Elt F) Λ₀ .tc) (Vec F S512x1024 .f32) :=
  Prog.lift (.load m (half s).toLoadRect (View.loadsAt_vmem h_S512x1024))
def st (m : Memref sig .tc .vmem S1024x1024 .f32) (s : Fin 2) (v : FVec F S512x1024 .f32) : Prog (TpuEff nD τ sig (Elt F) Λ₀ .tc) PUnit :=
  Prog.lift (.store m (half s) v Finset.univ (View.stores_vmem_bits_univ h_S512x1024 rfl) (.inl rfl))
def ldx (d : Dev nD) (X : Bool) (h : Nat) (s : Fin 2) : Prog (TpuEff nD τ sig (Elt F) Λ₀ .tc) (Vec F S512x1024 .f32) :=
  Prog.lift (.load xM (xrect d X h s).toLoadRect (View.loadsAt_vmem h_S512x1024))
def ldw (X : Bool) : Prog (TpuEff nD τ sig (Elt F) Λ₀ .tc) (Vec F S1024x1024 .f32) :=
  Prog.lift (.load wM (wrect X).toLoadRect (View.loadsAt_vmem h_S1024x1024))

/-- The product of round `h`, put in half `s` of a buffer. -/
def stepMul (m : Memref sig .tc .vmem S1024x1024 .f32) (d : Dev nD) (X : Bool) (h : Nat) (s : Fin 2) : Prog (TpuEff nD τ sig (Elt F) Λ₀ .tc) PUnit := do
  let x ← ldx d X h s
  let w ← ldw X
  let _ ← ld m s
  st m s (mul x w)
/-- What arrived plus this device's product. -/
def stepAdd (X : Bool) (s : Fin 2) : Prog (TpuEff nD τ sig (Elt F) Λ₀ .tc) PUnit := do
  let r ← ld (recvM X) s
  let p ← ld (pnxM X) s
  let _ ← ld (accM X) s
  st (accM X) s (add r p)
/-- The same, cut off at zero. -/
def stepRelu (X : Bool) (s : Fin 2) : Prog (TpuEff nD τ sig (Elt F) Λ₀ .tc) PUnit := do
  let r ← ld (recvM X) s
  let p ← ld (pnxM X) s
  let _ ← ld (accM X) s
  st (accM X) s (relu r p)
/-- What arrived, unchanged. -/
def stepFwd (X : Bool) (s : Fin 2) : Prog (TpuEff nD τ sig (Elt F) Λ₀ .tc) PUnit := do
  let r ← ld (recvM X) s
  let _ ← ld (accM X) s
  st (accM X) s (fwd r)

/-- Send half `s` of the accumulator to device `d`. -/
def send (X : Bool) (s : Fin 2) (d : Dev nD) : Prog (TpuEff nD τ sig (Elt F) Λ₀ .tc) PUnit :=
  Prog.lift (.enqueueDma (halfV (accM X) s) (.remote (Dev.tc d) (halfV (recvM X) s) (.dma (sendS X s))) (.dma (recvS X s))
    (View.wordExact_bits rfl) (View.wordExact_bits rfl) ⟨⟨rfl, Or.inl rfl⟩, trivial⟩)
def waitSend (X : Bool) (s : Fin 2) : Prog (TpuEff nD τ sig (Elt F) Λ₀ .tc) PUnit :=
  Prog.lift (.waitDma2 (sendS X s) (halfV (recvM X) s) (halfV (accM X) s) (View.wordExact_bits rfl) (View.wordExact_bits rfl))
def waitRecv (X : Bool) (s : Fin 2) : Prog (TpuEff nD τ sig (Elt F) Λ₀ .tc) PUnit :=
  Prog.lift (.waitDma2 (recvS X s) (halfV (accM X) s) (halfV (recvM X) s) (View.wordExact_bits rfl) (View.wordExact_bits rfl))

/-- Copy half `s` of a buffer to the `i`-th piece of the result, and wait for such a copy. -/
def copy (m : Memref sig .tc .vmem S1024x1024 .f32) (d : Dev nD) (X : Bool) (i : Nat) (s : Fin 2) : Prog (TpuEff nD τ sig (Elt F) Λ₀ .tc) PUnit :=
  Prog.lift (.enqueueDma (halfV m s) (.here (outV d X i s)) (.dma (copyS X s)) (View.wordExact_bits rfl) (View.wordExact_bits rfl) ⟨Or.inl rfl, trivial⟩)
def waitCopy (m : Memref sig .tc .vmem S1024x1024 .f32) (d : Dev nD) (X : Bool) (i : Nat) (s : Fin 2) : Prog (TpuEff nD τ sig (Elt F) Λ₀ .tc) PUnit :=
  Prog.lift (.waitDma2 (copyS X s) (halfV m s) (outV d X i s) (View.wordExact_bits rfl) (View.wordExact_bits rfl))

/-- The two neighbours as the kernel computes them: the previous and the next device. -/
def dPrv (d : Dev nD) : Dev nD := ⟨k0_dev1 d, k0_dev1_lt d⟩
def dNxt (d : Dev nD) : Dev nD := ⟨k0_dev2 d, k0_dev2_lt d⟩

/-- Where direction `X` sends, and where it receives from. -/
def dTo (d : Dev nD) : Bool → Dev nD := fun | false => dNxt d | true => dPrv d
def dFrom (d : Dev nD) : Bool → Dev nD := fun | false => dPrv d | true => dNxt d

def bothSend (d : Dev nD) (s : Fin 2) : Prog (TpuEff nD τ sig (Elt F) Λ₀ .tc) PUnit := do send false s (dTo d false); send true s (dTo d true)
/-- Tell both sources that the receive half is free, wait for the same from both destinations, then send. -/
def credits (d : Dev nD) : Prog (TpuEff nD τ sig (Elt F) Λ₀ .tc) PUnit := do
  semSignalWord (dFrom d false) (creditS false) 1#32
  semSignalWord (dFrom d true) (creditS true) 1#32
  semWaitWord (creditS false) 1#32
  semWaitWord (creditS true) 1#32
def waits (s : Fin 2) : Prog (TpuEff nD τ sig (Elt F) Λ₀ .tc) PUnit := do waitSend false s; waitSend true s; waitRecv false s; waitRecv true s
def copies (d : Dev nD) (i : Nat) (s : Fin 2) : Prog (TpuEff nD τ sig (Elt F) Λ₀ .tc) PUnit := do copy (accM false) d false i s; copy (accM true) d true i s
def waitCopies (d : Dev nD) (i : Nat) (s : Fin 2) : Prog (TpuEff nD τ sig (Elt F) Λ₀ .tc) PUnit := do waitCopy (accM false) d false i s; waitCopy (accM true) d true i s

/-- The next products, both halves. -/
def pnx (d : Dev nD) (h : Nat) (s : Fin 2) : Prog (TpuEff nD τ sig (Elt F) Λ₀ .tc) PUnit := do
  stepMul (pnxM false) d false h s; stepMul (pnxM true) d true h s
def pnxs (d : Dev nD) (h : Nat) : Prog (TpuEff nD τ sig (Elt F) Λ₀ .tc) PUnit := do pnx d h 0; pnx d h 1

/-- Round 0. -/
def blk0 (d : Dev nD) (s : Fin 2) : Prog (TpuEff nD τ sig (Elt F) Λ₀ .tc) PUnit := do
  stepMul (accM false) d false 0 s
  stepMul (accM true) d true 0 s
  bothSend d s
/-- Rounds 1 and 2. -/
def blkAdd (d : Dev nD) (s : Fin 2) : Prog (TpuEff nD τ sig (Elt F) Λ₀ .tc) PUnit := do
  waits s; stepAdd false s; stepAdd true s; credits d; bothSend d s
/-- Round 3. -/
def blkRelu (d : Dev nD) (s : Fin 2) : Prog (TpuEff nD τ sig (Elt F) Λ₀ .tc) PUnit := do
  waits s; stepRelu false s; stepRelu true s; copies d 0 s; credits d; bothSend d s
/-- Rounds 4 and 5: output pieces `i` and `j = i + 1`. -/
def blkFwd (d : Dev nD) (i j : Nat) (s : Fin 2) : Prog (TpuEff nD τ sig (Elt F) Λ₀ .tc) PUnit := do
  waits s; waitCopies d i s; stepFwd false s; stepFwd true s; copies d j s; credits d; bothSend d s
/-- After the last round: the last piece goes from the receive buffer to the result. -/
def tail1 (d : Dev nD) (s : Fin 2) : Prog (TpuEff nD τ sig (Elt F) Λ₀ .tc) PUnit := do
  waitRecv false s; waitRecv true s; waitCopies d 2 s
  copy (recvM false) d false 3 s; copy (recvM true) d true 3 s
def tail2 (d : Dev nD) (s : Fin 2) : Prog (TpuEff nD τ sig (Elt F) Λ₀ .tc) PUnit := do
  waitCopy (recvM false) d false 3 s; waitCopy (recvM true) d true 3 s; waitSend false s; waitSend true s
/-- The opening handshake with both neighbours. -/
def hello (d : Dev nD) : Prog (TpuEff nD τ sig (Elt F) Λ₀ .tc) PUnit := do
  semSignalWord (dPrv d) barS 1#32; semSignalWord (dNxt d) barS 1#32; semWaitWord barS 2#32

def body : Prog (TpuEff nD τ sig (Elt F) Λ₀ .tc) PUnit := do
  let d ← Prog.lift .deviceId
  hello d
  blk0 d 0; blk0 d 1; pnxs d 1
  blkAdd d 0; blkAdd d 1; pnxs d 2
  blkAdd d 0; blkAdd d 1; pnxs d 3
  blkRelu d 0; blkRelu d 1
  blkFwd d 0 1 0; blkFwd d 0 1 1
  blkFwd d 1 2 0; blkFwd d 1 2 1
  tail1 d 0; tail1 d 1
  tail2 d 0; tail2 d 1

set_option maxRecDepth 65536 in
theorem body_eq : bodyAt0 (F := F) t0_0 = body := by
  chain_rfl

end Cert.RingIdeal

end
-- ==== Proof.Proto.lean ====
/- The protocol of the ring: who owes what to whom, and what each signal and transfer hands over.

   A device has one barrier cell, one credit cell for each direction, and for each direction and half of a chunk a
   send, a receive and a copy cell. Direction `false` sends to the next device, direction `true` to the previous one.
   Round `h` of half `s` is transfer number `t = 2 h + s` of its direction.

   * The barrier cell has two duties, one for each direction: the device this one sends to in that direction says that
     its receive buffer is free for the first round.
   * A credit cell has the duties 2 to 11, all of one unit and in one round: duty `t` says that the receive halves are
     free for the transfers up to number `t`. A wait on it takes one unit of whichever of them have been paid; after
     the wait for number `t`, at least `t - 1` of them have, so one of them has number `t` or more.
   * The receive half itself changes hands through a slot: the reader puts it in when it has read it, the writer of the
     next round takes it out.
   * A send cell gives back a share of the accumulator's half, a receive cell the receive half with the round's value
     in it, a copy cell the buffer's share and the piece of the result.
   * While waiting a device owes only cells above the one it waits on: barrier 1, credit `t` at `4 t + 1`, receive `t`
     at `4 t + 2`. -/
module

public import proofs.«01_k».proof.Proof.Prog
public import Idealize.ShloMosaic.Lib.Pipeline.Launch
public import Idealize.ShloMosaic.Lib.Pipeline.Kit
public import Idealize.ShloMosaic.Lib.MemrefSat
public import Idealize.ShloMosaic.Lib.Release
public import Idealize.ShloMosaic.Lib.Tactic

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- Where direction `X` sends, and where it receives from. -/
def dst (c : Dev nD) : Bool → Dev nD := fun | false => nxt c | true => prv c
def src (c : Dev nD) : Bool → Dev nD := fun | false => prv c | true => nxt c

theorem src_dst (c : Dev nD) (X : Bool) : src (dst c X) X = c := by revert c X; decide
theorem dst_src (c : Dev nD) (X : Bool) : dst (src c X) X = c := by revert c X; decide

theorem dTo_eq (c : Dev nD) (X : Bool) : dTo c X = dst c X := by
  cases X
  · exact Fin.ext (k0_dev2_eq c)
  · exact Fin.ext (k0_dev1_eq c)
theorem dFrom_eq (c : Dev nD) (X : Bool) : dFrom c X = src c X := by
  cases X
  · exact Fin.ext (k0_dev1_eq c)
  · exact Fin.ext (k0_dev2_eq c)

/-! ## The cells -/

inductive CK
  | bar
  | credit (X : Bool)
  | send (X : Bool) (s : Fin 2)
  | recv (X : Bool) (s : Fin 2)
  | copy (X : Bool) (s : Fin 2)
  deriving DecidableEq

/-- The fourteen cells of the kernel's own semaphores, in their order, and the barrier last. -/
def ckOf : Fin 15 → CK := ![.send false 0, .send false 1, .send true 0, .send true 1, .recv false 0, .recv false 1, .recv true 0, .recv true 1,
  .copy false 0, .copy false 1, .copy true 0, .copy true 1, .credit false, .credit true, .bar]

theorem ckOf_surj : Function.Surjective ckOf
  | .bar => ⟨14, rfl⟩
  | .credit false => ⟨12, rfl⟩ | .credit true => ⟨13, rfl⟩
  | .send false 0 => ⟨0, rfl⟩ | .send false 1 => ⟨1, rfl⟩ | .send true 0 => ⟨2, rfl⟩ | .send true 1 => ⟨3, rfl⟩
  | .recv false 0 => ⟨4, rfl⟩ | .recv false 1 => ⟨5, rfl⟩ | .recv true 0 => ⟨6, rfl⟩ | .recv true 1 => ⟨7, rfl⟩
  | .copy false 0 => ⟨8, rfl⟩ | .copy false 1 => ⟨9, rfl⟩ | .copy true 0 => ⟨10, rfl⟩ | .copy true 1 => ⟨11, rfl⟩
theorem ckOf_inj : Function.Injective ckOf := by decide

set_option backward.proofsInPublic true in
instance : Fintype CK := Fintype.ofSurjective ckOf ckOf_surj

def csem : CK → SemLoc sig := fun
  | .bar => .reg barS
  | .credit X => .reg (creditS X)
  | .send X s => .dma (sendS X s)
  | .recv X s => .dma (recvS X s)
  | .copy X s => .dma (copyS X s)

theorem csem_inj : Function.Injective csem := by
  intro a b h
  obtain ⟨i, rfl⟩ := ckOf_surj a
  obtain ⟨j, rfl⟩ := ckOf_surj b
  exact congrArg ckOf ((by decide : ∀ i j, csem (ckOf i) = csem (ckOf j) → i = j) i j h)

/-- Which cell a semaphore is. -/
def decode (l : SemLoc sig) : Option CK := open Classical in if h : ∃ k, csem k = l then some h.choose else none

theorem decode_csem (k : CK) : decode (csem k) = some k := by
  unfold decode
  have h : ∃ k', csem k' = csem k := ⟨k, rfl⟩
  rw [dif_pos h, csem_inj h.choose_spec]

abbrev kcell (ck : Dev nD × CK) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The credit of a half chunk's transfer, the same for every view a transfer or copy writes. -/
def N : ℕ := (halfV (recvM false) 0).view.dmaCredit
theorem N_pos : 0 < N := View.dmaCredit_pos _ (by decide)
theorem N_recv (X : Bool) (s : Fin 2) : (halfV (recvM X) s).view.dmaCredit = N := by cases X <;> rfl
theorem N_acc (X : Bool) (s : Fin 2) : (halfV (accM X) s).view.dmaCredit = N := by cases X <;> rfl
theorem N_out (d : Dev nD) (X : Bool) (i : Nat) (s : Fin 2) : (outV d X i s).view.dmaCredit = N := rfl

/-! ## The algebra -/

/-- The slots' keys: a device's receive half. -/
abbrev SK : Type := Dev nD × Bool × Fin 2
abbrev UB : Type := URounds (GSem nD τ sig) ℕ
abbrev UU : Type := UR sig nD τ × (UB × USlots SK)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots SK)).trans embR
abbrev ES : Emb (USlots SK) (MT nD τ sig ℕ (Elt F) ℕ UU ℕ) := (Emb.inr : Emb (USlots SK) (UB × USlots SK)).trans embR

/-! ## The values -/

/-- Every device's two staged operands. -/
structure Ops (F : FTy → Type) where
  x : Dev nD → (cc0_stg0_0 : Ref sig .tc).ty.Contents (Elt F)
  w : Dev nD → (cc0_stg1_0 : Ref sig .tc).ty.Contents (Elt F)

variable (P : Ops F)

/-- The product device `c` adds in round `h`. -/
def PV (X : Bool) (h : Nat) (s : Fin 2) (c : Dev nD) : FVec F S512x1024 .f32 :=
  mul ((xM.access (xrect c X h s)).read (Elt F) (P.x c)) ((wM.access (wrect X)).read (Elt F) (P.w c))

/-- What device `c` sends in round `h`. -/
def D (X : Bool) : Nat → Fin 2 → Dev nD → FVec F S512x1024 .f32
  | 0, s, c => PV P X 0 s c
  | 1, s, c => add (D X 0 s (src c X)) (PV P X 1 s c)
  | 2, s, c => add (D X 1 s (src c X)) (PV P X 2 s c)
  | 3, s, c => relu (D X 2 s (src c X)) (PV P X 3 s c)
  | h + 4, s, c => fwd (D X (h + 3) s (src c X))

/-- What device `c`'s `i`-th piece of the result holds: what it sends in round `3 + i`, and for the last piece what it
    receives in round 5. -/
def OV (X : Bool) (i : Nat) (s : Fin 2) (c : Dev nD) : FVec F S512x1024 .f32 :=
  if i < 3 then D P X (3 + i) s c else D P X 5 s (src c X)

/-! ## What a signal says -/

/-- The receive half `s` of device `d` is free for the writes up to round `n`. -/
def Fact (d : Dev nD) (X : Bool) (s : Fin 2) (n : ℕ) : sProp 𝕄 :=
  iprop(released (ES (F := F)) (d, X, s) (n + 1) ∗ reached (ER (F := F)) (kcell (d, .recv X s)) n)
/-- Both halves are free for the transfers up to number `t`. -/
def Facts (d : Dev nD) (X : Bool) (t : ℕ) : sProp 𝕄 := iprop(Fact (F := F) d X 0 (t / 2) ∗ Fact (F := F) d X 1 ((t - 1) / 2))

instance Fact_persistent (d : Dev nD) (X : Bool) (s : Fin 2) (n : ℕ) : BI.Persistent (Fact (F := F) d X s n) := by unfold Fact; infer_instance
instance Facts_persistent (d : Dev nD) (X : Bool) (t : ℕ) : BI.Persistent (Facts (F := F) d X t) := by unfold Facts; infer_instance
instance Fact_storable (d : Dev nD) (X : Bool) (s : Fin 2) (n : ℕ) : BI.Storable (upEmb : UEmb _ 𝕄) (Fact (F := F) d X s n) := by unfold Fact; infer_instance
instance Facts_storable (d : Dev nD) (X : Bool) (t : ℕ) : BI.Storable (upEmb : UEmb _ 𝕄) (Facts (F := F) d X t) := by unfold Facts; infer_instance

/-- A shorthand: device `c` owns a half or a piece at a share and a value. -/
abbrev own {sp : Space} (c : Dev nD) (m : Memref sig .tc sp S512x1024 .f32) (q : PosShare TreeShare) (v : FVec F S512x1024 .f32) : sProp 𝕄 :=
  owns (c : Thread nD τ) m q v

/-! ## The schedule -/

def dutiesK : CK → ℕ → Finset ℕ
  | .bar, r => if r = 0 then {0, 1} else ∅
  | .credit _, r => if r = 0 then Finset.Ico 2 12 else ∅
  | .send _ _, r => if r < 6 then {0} else ∅
  | .recv _ _, r => if r < 6 then {0} else ∅
  | .copy _ _, r => if r < 4 then {0} else ∅
def amountK : CK → ℕ
  | .bar => 1
  | .credit _ => 1
  | .send _ _ => N
  | .recv _ _ => N
  | .copy _ _ => N

/-- The buffer a copy of piece `i` reads, and the share it is lent at. -/
def copySrc (X : Bool) (i : Nat) : Memref sig .tc .vmem S1024x1024 .f32 := if i < 3 then accM X else recvM X
def copyShare (i : Nat) : PosShare TreeShare := if i < 3 then fullShare.left else fullShare

def sendPay (c : Dev nD) (X : Bool) (s : Fin 2) (h : ℕ) : sProp 𝕄 := own c (halfV (accM X) s) fullShare.right (D P X h s c)
def recvPay (c : Dev nD) (X : Bool) (s : Fin 2) (h : ℕ) : sProp 𝕄 := own c (halfV (recvM X) s) fullShare (D P X h s (src c X))
def copyPay (c : Dev nD) (X : Bool) (s : Fin 2) (i : ℕ) : sProp 𝕄 :=
  iprop(own c (outV c X i s) fullShare (OV P X i s c) ∗ own c (halfV (copySrc X i) s) (copyShare i) (OV P X i s c))

instance sendPay_storable (c : Dev nD) (X : Bool) (s : Fin 2) (h : ℕ) : BI.Storable (upEmb : UEmb _ 𝕄) (sendPay P c X s h) := by unfold sendPay; infer_instance
instance recvPay_storable (c : Dev nD) (X : Bool) (s : Fin 2) (h : ℕ) : BI.Storable (upEmb : UEmb _ 𝕄) (recvPay P c X s h) := by unfold recvPay; infer_instance
instance copyPay_storable (c : Dev nD) (X : Bool) (s : Fin 2) (h : ℕ) : BI.Storable (upEmb : UEmb _ 𝕄) (copyPay P c X s h) := by unfold copyPay; infer_instance

def payK (c : Dev nD) : CK → ℕ → ℕ → sProp 𝕄
  | .bar, _, d => if d = 0 then Facts (F := F) (dst c false) false 1 else Facts (F := F) (dst c true) true 1
  | .credit X, _, d => Facts (F := F) (dst c X) X d
  | .send X s, r, _ => sendPay P c X s r
  | .recv X s, r, _ => recvPay P c X s r
  | .copy X s, r, _ => copyPay P c X s r

instance payK_storable (c : Dev nD) (k : CK) (r d : ℕ) : BI.Storable (upEmb : UEmb _ 𝕄) (payK P c k r d) := by
  cases k <;> simp only [payK]
  · split <;> infer_instance
  all_goals infer_instance

def Rd : Rounds.Schedule (GSem nD τ sig) ℕ 𝕄 where
  duties g r := if g.1.2 = .tc then match decode g.2 with | some k => dutiesK k r | none => ∅ else ∅
  unitless _ := False
  amount g _ _ := match decode g.2 with | some k => amountK k | none => 1
  payload g r d := match decode g.2 with | some k => payK P g.1.1 k r d | none => iprop(emp)
  amount_pos g _ _ _ := by
    cases decode g.2 with
    | none => exact Nat.one_pos
    | some k => cases k <;> simp only [amountK] <;> first | exact Nat.one_pos | exact N_pos

instance Rd_storable (g : GSem nD τ sig) (r : ℕ) (d : ℕ) : BI.Storable (upEmb : UEmb _ 𝕄) ((Rd P).payload g r d) := by
  show BI.Storable upEmb (match decode g.2 with | some k => payK P g.1.1 k r d | none => iprop(emp))
  split <;> infer_instance

section Sched
variable (c : Dev nD)

theorem duties_eq (k : CK) (r : ℕ) : (Rd P).duties (kcell (c, k)) r = dutiesK k r := by
  show (if (kcell (c, k)).1.2 = .tc then (match decode (csem k) with | some k => dutiesK k r | none => ∅) else ∅) = _
  rw [decode_csem]; exact if_pos rfl
theorem amount_eq (k : CK) (r d : ℕ) : (Rd P).amount (kcell (c, k)) r d = amountK k := by
  show (match decode (csem k) with | some k => amountK k | none => 1) = _
  rw [decode_csem]
theorem payload_eq (k : CK) (r d : ℕ) : (Rd P).payload (kcell (c, k)) r d = payK P c k r d := by
  show (match decode (csem k) with | some k => payK P c k r d | none => iprop(emp)) = _
  rw [decode_csem]
theorem expect_eq (k : CK) (r : ℕ) : (Rd P).expect (kcell (c, k)) r = (dutiesK k r).card * amountK k := by
  unfold Schedule.expect Schedule.amountOf
  rw [duties_eq, Finset.sum_congr rfl fun d _ => amount_eq P c k r d, Finset.sum_const, smul_eq_mul]

/-- How many rounds a cell has. -/
def rounds : CK → ℕ
  | .bar => 1
  | .credit _ => 1
  | .send _ _ => 6
  | .recv _ _ => 6
  | .copy _ _ => 4
theorem duties_later (k : CK) : ∀ r, rounds k ≤ r → (Rd P).duties (kcell (c, k)) r = ∅ := by
  intro r hr
  rw [duties_eq]
  cases k <;> simp only [rounds] at hr <;> simp only [dutiesK] <;> exact if_neg (by omega)

end Sched

/-! ## Levels, and what a device owes -/

def L (g : GSem nD τ sig) : Finset ℕ := if g.1.2 = .tc then Finset.range 13 else ∅
def levK : CK → ℕ → ℕ
  | .bar, _ => 1
  | .credit _, u => 4 * u + 1
  | .recv _ _, u => 4 * u + 2
  | .send _ _, _ => 0
  | .copy _ _, _ => 0
def lv (g : GSem nD τ sig) (u : ℕ) : ℕ := match decode g.2 with | some k => levK k u | none => 0

theorem L_of_ne (g : GSem nD τ sig) (h : g.1.2 ≠ .tc) : L g = ∅ := if_neg h
theorem L_tc (c : Dev nD) (sm : SemLoc sig) : L ((c : Thread nD τ), sm) = Finset.range 13 := if_pos rfl
theorem lv_eq (c : Dev nD) (k : CK) (u : ℕ) : lv (kcell (c, k)) u = levK k u := by
  show (match decode (csem k) with | some k => levK k u | none => 0) = _
  rw [decode_csem]

/-- Everything in `O` lies on a core's cell, at an index in use, above level `n`. -/
def Above (O : CellTallies nD τ sig ℕ) (n : ℕ) : Prop := ∀ g u, 0 < O g u → u ∈ L g ∧ n < lv g u

theorem Above.zero (n : ℕ) : Above 0 n := fun g u h => absurd h (Nat.lt_irrefl 0)
theorem Above.add {O O' : CellTallies nD τ sig ℕ} {n : ℕ} (h : Above O n) (h' : Above O' n) : Above (O + O') n := fun g u hg => by
  rw [Pi.add_apply, Finsupp.add_apply] at hg
  rcases Nat.eq_zero_or_pos (O g u) with h0 | h0
  · exact h' g u (by omega)
  · exact h g u h0
theorem Above.at {c : Dev nD} {k : CK} {u a n : ℕ} (hu : u < 13) (hn : n < levK k u) : Above (tallyAt (kcell (c, k)) u a) n := fun g u' hg => by
  rw [tallyAt_apply] at hg
  by_cases h : g = kcell (c, k) ∧ u' = u
  · rw [h.1, h.2, L_tc, lv_eq]; exact ⟨Finset.mem_range.mpr hu, hn⟩
  · rw [if_neg h] at hg; exact absurd hg (Nat.lt_irrefl 0)

theorem Above.mayWait {O : CellTallies nD τ sig ℕ} {n : ℕ} (h : Above O n) (c : Dev nD) (sm : SemLoc sig) (u : ℕ) (hu : u < 13)
    (hn : lv ((c : Thread nD τ), sm) u ≤ n) : (levAts L lv : sProp 𝕄) ⊢ MayWait (c : Thread nD τ) sm u O :=
  MayOwe.of_cut (L := L) (lev := lv) n (fun p hp => by rw [Finset.mem_singleton.mp hp, L_tc]; exact Finset.mem_range.mpr hu)
    (fun g u hg => (h g u hg).1) (fun p hp => by rw [Finset.mem_singleton.mp hp]; exact hn) (fun g u hg => (h g u hg).2)

/-- What device `c` owes for transfer number `t`: the credit to the source, from number 2 on, and the transfer's own. -/
def oweS (c : Dev nD) (s : Fin 2) (t : ℕ) : CellTallies nD τ sig ℕ :=
  tallyAt (kcell (dst c true, .recv true s)) t N + tallyAt (kcell (dst c false, .recv false s)) t N
def oweC (c : Dev nD) (t : ℕ) : CellTallies nD τ sig ℕ :=
  tallyAt (kcell (src c true, .credit true)) t 1 + tallyAt (kcell (src c false, .credit false)) t 1
def halfOf (t : ℕ) : Fin 2 := ⟨t % 2, Nat.mod_lt _ (by decide)⟩
/-- From transfer number `t` on. -/
def owe (c : Dev nD) (t : ℕ) : CellTallies nD τ sig ℕ := ∑ u ∈ Finset.Ico t 12, (oweS c (halfOf u) u + if 2 ≤ u then oweC c u else 0)

theorem Ico_cons {t n : ℕ} (h : t < n) : Finset.Ico t n = insert t (Finset.Ico (t + 1) n) := by
  ext u; rw [Finset.mem_insert, Finset.mem_Ico, Finset.mem_Ico]; omega
theorem not_mem_Ico_succ (t n : ℕ) : t ∉ Finset.Ico (t + 1) n := fun h => by have := (Finset.mem_Ico.mp h).1; omega

theorem owe_end (c : Dev nD) : owe c 12 = 0 := by unfold owe; rw [Finset.Ico_self, Finset.sum_empty]
theorem owe_lt (c : Dev nD) (t : ℕ) (ht : t < 2) : owe c t = owe c (t + 1) + oweS c (halfOf t) t := by
  unfold owe
  rw [Ico_cons (t := t) (by omega), Finset.sum_insert (not_mem_Ico_succ t 12), if_neg (by omega), add_zero, add_comm]
theorem owe_ge (c : Dev nD) (t : ℕ) (ht : 2 ≤ t) (ht' : t < 12) : owe c t = owe c (t + 1) + oweS c (halfOf t) t + oweC c t := by
  unfold owe
  rw [Ico_cons (t := t) (by omega), Finset.sum_insert (not_mem_Ico_succ t 12), if_pos ht, add_comm, add_assoc]

theorem above_oweS (c : Dev nD) (s : Fin 2) (t n : ℕ) (ht : t < 12) (hn : n < 4 * t + 2) : Above (oweS c s t) n :=
  (Above.at (by omega) hn).add (Above.at (by omega) hn)
theorem above_oweC (c : Dev nD) (t n : ℕ) (ht : t < 12) (hn : n < 4 * t + 1) : Above (oweC c t) n :=
  (Above.at (by omega) hn).add (Above.at (by omega) hn)
theorem above_owe (c : Dev nD) (t n : ℕ) (hn : n < 4 * t + 1) (h1 : n < 2 ∨ 2 ≤ t) : Above (owe c t) n := by
  unfold owe
  refine Finset.sum_induction _ (fun O => Above O n) (fun _ _ => Above.add) (Above.zero n) fun u hu => ?_
  obtain ⟨h, h'⟩ := Finset.mem_Ico.mp hu
  refine (above_oweS c _ u n h' (by omega)).add ?_
  split
  · exact above_oweC c u n h' (by omega)
  · exact Above.zero n

end Cert.RingIdeal

end
-- ==== Proof.Steps.lean ====
/- One lemma for each kind of step: what it needs, what it leaves.

   `Tr c p A B` says that device `c` runs the program `p` from `A` to `B`. -/
module

public import proofs.«01_k».proof.Proof.Proto

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

abbrev 𝒱₀ : Variants := Variants.none

/-- Device `c` runs `p` and then has `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev Tr (c : Dev nD) (p : Prog (TpuEff nD τ sig (Elt F) Λ₀ .tc) PUnit) (A B : sProp 𝕄) : Prop :=
  ∀ Q : PUnit → sProp 𝕄, A ⊢ iprop((B -∗ Q ⟨⟩) -∗ WP c p Q)

theorem WP.bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := wp_bind _ _ _ p k Q
/-- The same with the left side written out. -/
theorem WP.bind' (c : Dev nD) {α β : Type} (p : Prog (TpuEff nD τ sig (Elt F) Λ₀ .tc) α) (k : α → Prog (TpuEff nD τ sig (Elt F) Λ₀ .tc) β)
    (Q : β → sProp 𝕄) : wp frame (wpE defs₀ 𝒱₀ (c : Thread nD τ) none) Set.univ (p >>= k) Q = WP c p (fun a => WP c (k a) Q) := wp_bind _ _ _ p k Q

variable (P : Ops F) (K : Dev nD × CK → ℕ) (KS : SK → ℕ)

/-- A receive half, at whatever contents: what a slot holds. -/
def slotS (k : SK) : sProp 𝕄 :=
  Release.slot ((halfV (recvM k.2.1) k.2.2).view.loc (k.1 : Thread nD τ)) (halfV (recvM k.2.1) k.2.2).view.set

instance slotS_storable (k : SK) : BI.Storable (upEmb : UEmb _ 𝕄) (slotS (F := F) k) := by unfold slotS; infer_instance

/-- What every device knows: every cell's and slot's invariant, the levels, every cell's round 0. -/
def Ctx : sProp 𝕄 :=
  iprop((bigSep Finset.univ fun ck : Dev nD × CK => cellInv ER (Rd P) (K ck) (kcell ck))
    ∗ (bigSep Finset.univ fun k : SK => slotInv ES (KS k) k (slotS (F := F) k))
    ∗ levAts L lv ∗ bigSep Finset.univ fun ck : Dev nD × CK => reached ER (kcell ck) 0)

instance Ctx_persistent : BI.Persistent (Ctx P K KS) := by unfold Ctx; infer_instance

theorem Ctx.cell (ck : Dev nD × CK) : Ctx P K KS ⊢ cellInv ER (Rd P) (K ck) (kcell ck) := by
  unfold Ctx; iintro ⟨H, -⟩
  have h : (bigSep Finset.univ fun ck : Dev nD × CK => (cellInv ER (Rd P) (K ck) (kcell ck) : sProp 𝕄)) ⊢ cellInv ER (Rd P) (K ck) (kcell ck) := bigSep_elim (Finset.mem_univ ck)
  iapply h; iexact H
theorem Ctx.slot (k : SK) : Ctx P K KS ⊢ slotInv ES (KS k) k (slotS (F := F) k) := by
  unfold Ctx; iintro ⟨-, H, -⟩
  have h : (bigSep Finset.univ fun k : SK => (slotInv ES (KS k) k (slotS (F := F) k) : sProp 𝕄)) ⊢ slotInv ES (KS k) k (slotS (F := F) k) := bigSep_elim (Finset.mem_univ k)
  iapply h; iexact H
theorem Ctx.lev : Ctx P K KS ⊢ levAts L lv := by
  unfold Ctx; iintro ⟨-, -, H, -⟩; iexact H
theorem Ctx.reached (ck : Dev nD × CK) : Ctx P K KS ⊢ Rounds.reached (ER (F := F)) (kcell ck) 0 := by
  unfold Ctx; iintro ⟨-, -, -, H⟩
  have h : (bigSep Finset.univ fun ck : Dev nD × CK => (Rounds.reached ER (kcell ck) 0 : sProp 𝕄)) ⊢ Rounds.reached ER (kcell ck) 0 := bigSep_elim (Finset.mem_univ ck)
  iapply h; iexact H

/-- What device `c` owes, whatever it has waited on. -/
def ow (c : Dev nD) (O : CellTallies nD τ sig ℕ) : sProp 𝕄 := iprop(∃ W, owes (c : Thread nD τ) O W)

/-! ## Loads and stores -/

section Mem
variable (c : Dev nD)

theorem own_elim {sp : Space} (m : Memref sig .tc sp S512x1024 .f32) (q : PosShare TreeShare) (v : FVec F S512x1024 .f32) :
    own c m q v ⊢ iprop(∃ f, ⌜m.view.read (Elt F) f = v⌝ ∗ (m.view.loc (c : Thread nD τ) ↦[m.view.set]{q} f) : sProp 𝕄) := .rfl

theorem own_half (m : Memref sig .tc .vmem S1024x1024 .f32) (s : Fin 2) (q : PosShare TreeShare) (v : FVec F S512x1024 .f32) :
    own c (halfV m s) q v = iprop(∃ f : Buf (Elt F) ((m.access (half s)).loc (c : Thread nD τ)), ⌜(m.access (half s)).read (Elt F) f = v⌝
      ∗ ((m.access (half s)).loc (c : Thread nD τ) ↦[(m.access (half s)).set]{q} f) : sProp 𝕄) := rfl

theorem tr_ld (m : Memref sig .tc .vmem S1024x1024 .f32) (s : Fin 2) (q : PosShare TreeShare) (v : FVec F S512x1024 .f32)
    (Q : Vec F S512x1024 .f32 → sProp 𝕄) :
    own c (halfV m s) q v ⊢ iprop((own c (halfV m s) q v -∗ Q v) -∗ WP c (ld m s) Q) := by
  iintro H Hk
  ihave H' := (Entails.of_eq (own_half c m s q v)) $$ H
  icases H' with ⟨%f, %hf, H⟩
  unfold ld Prog.lift
  subst hf
  iapply (wp_load_rect 𝒱₀ (c : Thread nD τ) none Set.univ (m := m) (r := half s) (S := (m.access (half s)).set) subset_rfl) $$ H
  iintro H
  rw [wp_ret]; imodintro
  iapply Hk
  rw [own_half]
  iexists f; isplitr; · ipureintro; rfl
  iexact H

theorem tr_st (m : Memref sig .tc .vmem S1024x1024 .f32) (s : Fin 2) (v w : FVec F S512x1024 .f32) :
    Tr c (st m s w) (own c (halfV m s) fullShare v) (own c (halfV m s) fullShare w) := by
  intro Q
  iintro H Hk
  ihave H' := (Entails.of_eq (own_half c m s _ v)) $$ H
  icases H' with ⟨%f, %hf, H⟩
  unfold st Prog.lift
  iapply (wp_store 𝒱₀ (c : Thread nD τ) none Set.univ (m := m) (r := half s) (Mk := Finset.univ) (S := (m.access (half s)).set)
    (by rw [View.setOn_univ])) $$ H
  iintro H
  rw [wp_ret]; imodintro
  iapply Hk
  rw [own_half]
  iexists _; isplitr; swap; · iexact H
  ipureintro; exact View.read_write_univ _ _

/-- The two staged operands. -/
def stg : sProp 𝕄 := iprop((((c : Thread nD τ).loc cc0_stg0_0) ↦{fullShare} P.x c) ∗ (((c : Thread nD τ).loc cc0_stg1_0) ↦{fullShare} P.w c))

theorem tr_ldx (X : Bool) (h : Nat) (s : Fin 2) (Q : Vec F S512x1024 .f32 → sProp 𝕄) :
    stg P c ⊢ iprop((stg P c -∗ Q ((xM.access (xrect c X h s)).read (Elt F) (P.x c))) -∗ WP c (ldx c X h s) Q) := by
  unfold stg
  iintro ⟨H, Hw⟩ Hk
  unfold ldx Prog.lift
  iapply (wp_load_rect 𝒱₀ (c : Thread nD τ) none Set.univ (m := xM) (r := xrect c X h s) (Finset.subset_univ _)) $$ H
  iintro H
  rw [wp_ret]; imodintro
  iapply Hk
  isplitl [H] <;> iassumption

theorem tr_ldw (X : Bool) (Q : Vec F S1024x1024 .f32 → sProp 𝕄) :
    stg P c ⊢ iprop((stg P c -∗ Q ((wM.access (wrect X)).read (Elt F) (P.w c))) -∗ WP c (ldw X) Q) := by
  unfold stg
  iintro ⟨Hx, H⟩ Hk
  unfold ldw Prog.lift
  iapply (wp_load_rect 𝒱₀ (c : Thread nD τ) none Set.univ (m := wM) (r := wrect X) (Finset.subset_univ _)) $$ H
  iintro H
  rw [wp_ret]; imodintro
  iapply Hk
  isplitl [Hx] <;> iassumption

/-- A half buffer at whatever value. -/
def anyH (m : Memref sig .tc .vmem S1024x1024 .f32) (s : Fin 2) : sProp 𝕄 := iprop(∃ v, own c (halfV m s) fullShare v)

theorem anyH_intro (m : Memref sig .tc .vmem S1024x1024 .f32) (s : Fin 2) (v : FVec F S512x1024 .f32) :
    own c (halfV m s) fullShare v ⊢ anyH c m s := by unfold anyH; iintro H; iexists v; iexact H

theorem tr_mul (m : Memref sig .tc .vmem S1024x1024 .f32) (X : Bool) (h : Nat) (s : Fin 2) :
    Tr c (stepMul m c X h s) iprop(stg P c ∗ anyH c m s) iprop(stg P c ∗ own c (halfV m s) fullShare (PV P X h s c)) := by
  intro Q
  unfold anyH stepMul
  iintro ⟨Hs, %v, H⟩ Hk
  rw [WP.bind]
  iapply (tr_ldx P c X h s) $$ Hs
  iintro Hs
  rw [WP.bind]
  iapply (tr_ldw P c X) $$ Hs
  iintro Hs
  rw [WP.bind]
  iapply (tr_ld c m s fullShare v) $$ H
  iintro H
  iapply (tr_st c m s v _) $$ H
  iintro H
  iapply Hk
  isplitl [Hs]; · iexact Hs
  iexact H

/-- The three ways to fill the accumulator. -/
theorem tr_add (X : Bool) (s : Fin 2) (q q' : PosShare TreeShare) (r p : FVec F S512x1024 .f32) :
    Tr c (stepAdd X s) iprop(own c (halfV (recvM X) s) q r ∗ own c (halfV (pnxM X) s) q' p ∗ anyH c (accM X) s)
      iprop(own c (halfV (recvM X) s) q r ∗ own c (halfV (pnxM X) s) q' p ∗ own c (halfV (accM X) s) fullShare (add r p)) := by
  intro Q
  unfold anyH stepAdd
  iintro ⟨Hr, Hp, %v, H⟩ Hk
  rw [WP.bind]
  iapply (tr_ld c (recvM X) s q r) $$ Hr
  iintro Hr
  rw [WP.bind]
  iapply (tr_ld c (pnxM X) s q' p) $$ Hp
  iintro Hp
  rw [WP.bind]
  iapply (tr_ld c (accM X) s fullShare v) $$ H
  iintro H
  iapply (tr_st c (accM X) s v _) $$ H
  iintro H
  iapply Hk
  isplitl [Hr]; · iexact Hr
  isplitl [Hp]; · iexact Hp
  iexact H

theorem tr_relu (X : Bool) (s : Fin 2) (q q' : PosShare TreeShare) (r p : FVec F S512x1024 .f32) :
    Tr c (stepRelu X s) iprop(own c (halfV (recvM X) s) q r ∗ own c (halfV (pnxM X) s) q' p ∗ anyH c (accM X) s)
      iprop(own c (halfV (recvM X) s) q r ∗ own c (halfV (pnxM X) s) q' p ∗ own c (halfV (accM X) s) fullShare (relu r p)) := by
  intro Q
  unfold anyH stepRelu
  iintro ⟨Hr, Hp, %v, H⟩ Hk
  rw [WP.bind]
  iapply (tr_ld c (recvM X) s q r) $$ Hr
  iintro Hr
  rw [WP.bind]
  iapply (tr_ld c (pnxM X) s q' p) $$ Hp
  iintro Hp
  rw [WP.bind]
  iapply (tr_ld c (accM X) s fullShare v) $$ H
  iintro H
  iapply (tr_st c (accM X) s v _) $$ H
  iintro H
  iapply Hk
  isplitl [Hr]; · iexact Hr
  isplitl [Hp]; · iexact Hp
  iexact H

theorem tr_fwd (X : Bool) (s : Fin 2) (q : PosShare TreeShare) (r : FVec F S512x1024 .f32) :
    Tr c (stepFwd X s) iprop(own c (halfV (recvM X) s) q r ∗ anyH c (accM X) s)
      iprop(own c (halfV (recvM X) s) q r ∗ own c (halfV (accM X) s) fullShare (fwd r)) := by
  intro Q
  unfold anyH stepFwd
  iintro ⟨Hr, %v, H⟩ Hk
  rw [WP.bind]
  iapply (tr_ld c (recvM X) s q r) $$ Hr
  iintro Hr
  rw [WP.bind]
  iapply (tr_ld c (accM X) s fullShare v) $$ H
  iintro H
  iapply (tr_st c (accM X) s v _) $$ H
  iintro H
  iapply Hk
  isplitl [Hr]; · iexact Hr
  iexact H

end Mem

/-! ## Waits -/

section Comm
variable (c : Dev nD)

/-- A wait for a transfer or copy: round `r` of a send, receive or copy cell. -/
theorem tr_waitD (k : CK) (r u n : ℕ) (O : CellTallies nD τ sig ℕ) {sem : DmaSem sig} {sp sp' : Space} {s₁ s₂ : Shape} {e₁ e₂ : EltTy}
    (a : Memref sig .tc sp s₁ e₁) (b : Memref sig .tc sp' s₂ e₂) (h₁ : a.view.WordExact) (h₂ : b.view.WordExact)
    (hsem : csem k = .dma sem) (hN : b.view.dmaCredit = N) (hk : amountK k = N) (hd : dutiesK k r = {0}) (hu : u < 13)
    (hO : Above O n) (hn : levK k u ≤ n) :
    Tr c (Prog.lift (.waitDma2 sem a b h₁ h₂))
      iprop(Ctx P K KS ∗ cred (tallyAt (kcell (c, k)) u N) ∗ ow c O ∗ atPos ER (kcell (c, k)) r ∅ 0)
      iprop(ow c O ∗ atPos ER (kcell (c, k)) (r + 1) ∅ 0 ∗ reached ER (kcell (c, k)) (r + 1) ∗ payK P c k r 0) := by
  intro Q
  unfold ow Prog.lift
  iintro ⟨#HC, Hc, ⟨%W, HO⟩, Hat⟩ Hk
  ihave #HI := Ctx.cell P K KS (c, k) $$ HC
  ihave #HL := Ctx.lev P K KS $$ HC
  have hcell : kcell (c, k) = ((c : Thread nD τ), SemLoc.dma sem) := by unfold kcell; rw [hsem]
  have he : (0 : ℕ) + b.view.dmaCredit = (Rd P).expect ((c : Thread nD τ), SemLoc.dma sem) r := by
    rw [← hcell, expect_eq, hd, hk, hN, Finset.card_singleton, Nat.zero_add, Nat.one_mul]
  have hw := hO.mayWait (F := F) c (.dma sem) u hu (by rw [← hcell, lv_eq]; exact hn)
  have hrest : bigSep ((Rd P).duties (kcell (c, k)) r \ ∅) (fun d => (Rd P).payload (kcell (c, k)) r d) = payK P c k r 0 := by
    rw [Finset.sdiff_empty, duties_eq, hd, bigSep_singleton, payload_eq]
  rw [← hN, hcell] at *
  iapply (Rounds.wp_wait_rest_token 𝒱₀ ER (Rd P) (c : Thread nD τ) none (κ := K (c, k))
      (wpE_waitDma2_eq 𝒱₀ (c : Thread nD τ) none Set.univ) (Set.mem_univ _) u (O := O) (W := W) (R := r) (m := 0) (T := ∅) he) $$ [Hc HO Hat]
  · isplitr; · iexact HI
    isplitl [Hc]; · iexact Hc
    isplitl [HO]; · iexact HO
    isplitr; · iapply hw; iexact HL
    iexact Hat
  iintro ⟨HO, Hat, #Hr, Hpay⟩
  rw [wp_ret]; imodintro
  iapply Hk
  isplitl [HO]; · iexists _; iexact HO
  isplitl [Hat]; · iexact Hat
  isplitr; · iexact Hr
  iapply (Entails.of_eq hrest); iexact Hpay

theorem tr_waitSend (X : Bool) (s : Fin 2) (h : ℕ) (hh : h < 6) (O : CellTallies nD τ sig ℕ) (hO : Above O 0) :
    Tr c (waitSend X s) iprop(Ctx P K KS ∗ cred (tallyAt (kcell (c, .send X s)) 0 N) ∗ ow c O ∗ atPos ER (kcell (c, .send X s)) h ∅ 0)
      iprop(ow c O ∗ atPos ER (kcell (c, .send X s)) (h + 1) ∅ 0 ∗ reached ER (kcell (c, .send X s)) (h + 1)
        ∗ own c (halfV (accM X) s) fullShare.right (D P X h s c)) :=
  tr_waitD P K KS c (.send X s) h 0 0 O _ _ _ _ rfl (N_acc X s) rfl (if_pos hh) (by decide) hO (le_refl _)

theorem tr_waitRecv (X : Bool) (s : Fin 2) (h u : ℕ) (hh : h < 6) (hu : u < 13) (O : CellTallies nD τ sig ℕ) (hO : Above O (4 * u + 2)) :
    Tr c (waitRecv X s) iprop(Ctx P K KS ∗ cred (tallyAt (kcell (c, .recv X s)) u N) ∗ ow c O ∗ atPos ER (kcell (c, .recv X s)) h ∅ 0)
      iprop(ow c O ∗ atPos ER (kcell (c, .recv X s)) (h + 1) ∅ 0 ∗ reached ER (kcell (c, .recv X s)) (h + 1)
        ∗ own c (halfV (recvM X) s) fullShare (D P X h s (src c X))) :=
  tr_waitD P K KS c (.recv X s) h u (4 * u + 2) O _ _ _ _ rfl (N_recv X s) rfl (if_pos hh) hu hO (le_refl _)

theorem tr_waitCopy (m : Memref sig .tc .vmem S1024x1024 .f32) (X : Bool) (s : Fin 2) (i : ℕ) (hi : i < 4) (O : CellTallies nD τ sig ℕ) (hO : Above O 0) :
    Tr c (waitCopy m c X i s) iprop(Ctx P K KS ∗ cred (tallyAt (kcell (c, .copy X s)) 0 N) ∗ ow c O ∗ atPos ER (kcell (c, .copy X s)) i ∅ 0)
      iprop(ow c O ∗ atPos ER (kcell (c, .copy X s)) (i + 1) ∅ 0 ∗ reached ER (kcell (c, .copy X s)) (i + 1) ∗ copyPay P c X s i) :=
  tr_waitD P K KS c (.copy X s) i 0 0 O _ _ _ _ rfl (N_out c X i s) rfl (if_pos hi) (by decide) hO (le_refl _)

/-! ## Sends and copies -/

theorem Fact.mono (d : Dev nD) (X : Bool) (s : Fin 2) {n n' : ℕ} (h : n' ≤ n) : Fact (F := F) d X s n ⊢ Fact (F := F) d X s n' := by
  unfold Fact
  exact BIClass.sep_mono (Release.released_mono _ (by omega)) (Rounds.reached_mono _ h)
theorem Facts.mono (d : Dev nD) (X : Bool) {t t' : ℕ} (h : t' ≤ t) : Facts (F := F) d X t ⊢ Facts (F := F) d X t' := by
  unfold Facts
  exact BIClass.sep_mono (Fact.mono d X 0 (by omega)) (Fact.mono d X 1 (by omega))

/-- The send of round `h`: the receive half comes out of its slot, the accumulator's share goes to the send cell. -/
theorem tr_send (X : Bool) (s : Fin 2) (h t : ℕ) (hh : h < 6) (O O' : CellTallies nD τ sig ℕ)
    (hO : O = O' + tallyAt (kcell (dst c X, .recv X s)) t N) :
    Tr c (send X s (dTo c X))
      iprop(Ctx P K KS ∗ Fact (F := F) (dst c X) X s h ∗ own c (halfV (accM X) s) fullShare.right (D P X h s c) ∗ ow c O
        ∗ dutyTok ER (kcell (c, .send X s)) h 0 ∗ reached ER (kcell (c, .send X s)) h
        ∗ dutyTok ER (kcell (dst c X, .recv X s)) h 0 ∗ writeTok (ES (F := F)) (dst c X, X, s) (h + 1))
      iprop(cred (tallyAt (kcell (c, .send X s)) 0 N) ∗ ow c O') := by
  intro Q
  rw [dTo_eq]
  unfold ow send Prog.lift Fact
  iintro ⟨#HC, ⟨#Hrel, #Hrr⟩, Hacc, ⟨%W, HO⟩, Hts, #Hrs, Htr, Hw⟩ Hk
  ihave #HIs := Ctx.cell P K KS (c, .send X s) $$ HC
  ihave #HIr := Ctx.cell P K KS (dst c X, .recv X s) $$ HC
  ihave #HS := Ctx.slot P K KS (dst c X, X, s) $$ HC
  imod (Release.slot_take ES (Set.mem_univ (KS (dst c X, X, s))) (h + 1)) $$ [Hw] with Hslot
  · isplitr; · iexact HS
    isplitr; · iexact Hrel
    iexact Hw
  unfold slotS Release.slot
  icases Hslot with ⟨%fd, Hd⟩
  ihave Hacc := own_elim c _ _ _ $$ Hacc
  icases Hacc with ⟨%fs, %hfs, Hacc⟩
  iapply (Rounds.wp_send_pointsTo 𝒱₀ ER (Rd P) (c : Thread nD τ) none (κ₁ := K (c, .send X s)) (κ₂ := K (dst c X, .recv X s))
    (c' := (dst c X : Thread nD τ)) (src := halfV (accM X) s) (dst := halfV (recvM X) s) (sS := .dma (sendS X s)) (sem := .dma (recvS X s))
    (r₁ := h) (r₂ := h) (d₁ := 0) (d₂ := 0) (fd := fd) (fs := fs) (q := fullShare.right)
    (by rw [show ((c : Thread nD τ), SemLoc.dma (sendS X s)) = kcell (c, .send X s) from rfl, duties_eq]
        simp only [dutiesK, if_pos hh]; exact Finset.mem_singleton_self _)
    (by rw [show ((dst c X : Thread nD τ), SemLoc.dma (recvS X s)) = kcell (dst c X, .recv X s) from rfl, duties_eq]
        simp only [dutiesK, if_pos hh]; exact Finset.mem_singleton_self _)
    t 0 N (N_recv X s) (amount_eq P c (.send X s) h 0) (amount_eq P (dst c X) (.recv X s) h 0) O' hO (W := W)
    (by rw [show ((c : Thread nD τ), SemLoc.dma (sendS X s)) = kcell (c, .send X s) from rfl, payload_eq]
        show _ ⊢ sendPay P c X s h
        unfold sendPay; rw [← hfs]; exact owns_intro (c : Thread nD τ) (halfV (accM X) s) _ fs)
    (by rw [show ((dst c X : Thread nD τ), SemLoc.dma (recvS X s)) = kcell (dst c X, .recv X s) from rfl, payload_eq]
        show _ ⊢ recvPay P (dst c X) X s h
        unfold recvPay; rw [src_dst, ← hfs]
        have e := owns_intro (Ix := ℕ) (Name := ℕ) (U := UU) (Lvl := ℕ) (dst c X : Thread nD τ) (halfV (recvM X) s) fullShare
          ((halfV (recvM X) s).view.write (Elt F) fd ((halfV (accM X) s).view.read (Elt F) fs) Finset.univ)
        rw [View.read_write_univ] at e; exact e)) $$ [Hacc Hd HO Hts Htr]
  · isplitr; · iexact HIs
    isplitr; · iexact HIr
    isplitl [Hacc]; · iexact Hacc
    isplitl [Hd]; · iexact Hd
    isplitl [HO]; · iexact HO
    isplitl [Hts]; · iexact Hts
    isplitr; · iexact Hrs
    isplitl [Htr]; · iexact Htr
    iexact Hrr
  iintro ⟨Hc, HO⟩
  rw [wp_ret]; imodintro
  iapply Hk
  isplitl [Hc]; · iexact Hc
  iexists W; iexact HO

/-- The copy of piece `i` of the result. -/
theorem tr_copy (X : Bool) (s : Fin 2) (i : ℕ) (hi : i < 4) (v : FVec F S512x1024 .f32) (m : Memref sig .tc .vmem S1024x1024 .f32) (hm : copySrc X i = m) :
    Tr c (copy m c X i s)
      iprop(Ctx P K KS ∗ own c (halfV m s) (copyShare i) (OV P X i s c) ∗ own c (outV c X i s) fullShare v
        ∗ dutyTok ER (kcell (c, .copy X s)) i 0 ∗ reached ER (kcell (c, .copy X s)) i)
      (cred (tallyAt (kcell (c, .copy X s)) 0 N)) := by
  intro Q
  subst hm
  unfold copy Prog.lift
  iintro ⟨#HC, Hs, Hd, Ht, #Hr⟩ Hk
  ihave #HI := Ctx.cell P K KS (c, .copy X s) $$ HC
  ihave Hs := own_elim c _ _ _ $$ Hs
  icases Hs with ⟨%fs, %hfs, Hs⟩
  ihave Hd := own_elim c _ _ _ $$ Hd
  icases Hd with ⟨%fd, %hfd, Hd⟩
  iapply (Rounds.wp_copy_pointsTo 𝒱₀ ER (Rd P) (c : Thread nD τ) none (κ := K (c, .copy X s))
    (src := halfV (copySrc X i) s) (dst := outV c X i s) (sem := .dma (copyS X s)) (r := i) (d := 0) (fs := fs) (fd := fd) (q := copyShare i)
    (by rw [show ((c : Thread nD τ), SemLoc.dma (copyS X s)) = kcell (c, .copy X s) from rfl, duties_eq]
        simp only [dutiesK, if_pos hi]; exact Finset.mem_singleton_self _)
    0 N (N_out c X i s) (amount_eq P c (.copy X s) i 0)
    (by rw [show ((c : Thread nD τ), SemLoc.dma (copyS X s)) = kcell (c, .copy X s) from rfl, payload_eq]
        show _ ⊢ copyPay P c X s i
        unfold copyPay
        have e := owns_intro (Ix := ℕ) (Name := ℕ) (U := UU) (Lvl := ℕ) (c : Thread nD τ) (outV c X i s) fullShare
          ((outV c X i s).view.write (Elt F) fd ((halfV (copySrc X i) s).view.read (Elt F) fs) Finset.univ)
        rw [View.read_write_univ, hfs] at e
        have e' := owns_intro (Ix := ℕ) (Name := ℕ) (U := UU) (Lvl := ℕ) (c : Thread nD τ) (halfV (copySrc X i) s) (copyShare i) fs
        rw [hfs] at e'
        exact BIClass.sep_mono (by rw [hfs]; exact e) e')) $$ [Hs Hd Ht]
  · isplitr; · iexact HI
    isplitl [Hs]; · iexact Hs
    isplitl [Hd]; · iexact Hd
    isplitl [Ht]; · iexact Ht
    iexact Hr
  iintro Hc
  rw [wp_ret]; imodintro
  iapply Hk; iexact Hc

/-! ## Credits -/

theorem S512x1024_pos : 0 < S512x1024.numel := by decide

/-- The reader gives the receive half it has read back to its slot. -/
theorem release (X : Bool) (s : Fin 2) (n : ℕ) :
    iprop(Ctx P K KS ∗ anyH c (recvM X) s ∗ readerAt (ES (F := F)) (c, X, s) n ∗ reached ER (kcell (c, .recv X s)) n)
      ⊢ (|={Set.univ}=> (readerAt (ES (F := F)) (c, X, s) (n + 1) ∗ Fact (F := F) c X s n) : sProp 𝕄) := by
  unfold anyH Fact
  iintro ⟨#HC, ⟨%v, H⟩, Hr, #Hre⟩
  ihave #HS := Ctx.slot P K KS (c, X, s) $$ HC
  ihave H := own_elim c _ _ _ $$ H
  icases H with ⟨%f, %hf, H⟩
  imod (Release.slot_release ES (k := (c, X, s)) (S := slotS (F := F) (c, X, s)) (Set.mem_univ (KS (c, X, s)))
    (by unfold slotS; exact Release.slot_slot_false (View.set_nonempty S512x1024_pos)) n) $$ [Hr H] with ⟨Hr, #Hrel⟩
  · isplitr; · iexact HS
    isplitl [Hr]; · iexact Hr
    unfold slotS Release.slot
    iexists f; iexact H
  imodintro
  isplitl [Hr]; · iexact Hr
  isplitr; · iexact Hrel
  iexact Hre

theorem tr_signal (X : Bool) (t : ℕ) (ht : 2 ≤ t) (ht' : t < 12) (O O' : CellTallies nD τ sig ℕ)
    (hO : O = O' + tallyAt (kcell (src c X, .credit X)) t 1) :
    Tr c (semSignalWord (dFrom c X) (creditS X) 1#32)
      iprop(Ctx P K KS ∗ Facts (F := F) c X t ∗ ow c O ∗ dutyTok ER (kcell (src c X, .credit X)) 0 t)
      (ow c O') := by
  intro Q
  rw [dFrom_eq]
  unfold ow semSignalWord
  iintro ⟨#HC, #HF, ⟨%W, HO⟩, Ht⟩ Hk
  ihave #HI := Ctx.cell P K KS (src c X, .credit X) $$ HC
  ihave #Hr := Ctx.reached P K KS (src c X, .credit X) $$ HC
  iapply (Rounds.wp_signal 𝒱₀ ER (Rd P) (c : Thread nD τ) none (dst := (src c X : Thread nD τ)) (sem := creditS X) (κ := K (src c X, .credit X))
      (r := 0) (d := t)
      (by rw [show ((src c X : Thread nD τ), SemLoc.reg (creditS X)) = kcell (src c X, .credit X) from rfl, duties_eq]
          exact Finset.mem_Ico.mpr ⟨ht, ht'⟩)
      ((amount_eq P (src c X) (.credit X) 0 t).trans (show amountK (.credit X) = 1 from rfl)) t O' hO (W := W)) $$ [HO Ht]
  · isplitr; · iexact HI
    isplitl [HO]; · iexact HO
    isplitl [Ht]; · iexact Ht
    isplitr
    · rw [show ((src c X : Thread nD τ), SemLoc.reg (creditS X)) = kcell (src c X, .credit X) from rfl, payload_eq]
      rw [show payK P (src c X) (.credit X) 0 t = Facts (F := F) (dst (src c X) X) X t from rfl, dst_src]; iexact HF
    iexact Hr
  iintro HO
  rw [wp_ret]; imodintro
  iapply Hk
  iexists W; iexact HO

/-- Where a device stands on its credit cell before the wait for transfer `t`: it has taken `t - 2` units, and the
    payloads of at least as many duties. -/
def CrSt (X : Bool) (t : ℕ) : sProp 𝕄 :=
  if t < 12 then iprop(∃ S : Finset ℕ, ⌜S ⊆ Finset.Ico 2 12 ∧ t - 2 ≤ S.card⌝ ∗ atPos ER (kcell (c, .credit X)) 0 S (t - 2)
    ∗ bigSep S fun d => Facts (F := F) (dst c X) X d)
  else atPos ER (kcell (c, .credit X)) 1 ∅ 0

theorem exists_ge {S : Finset ℕ} {t : ℕ} (hS : S ⊆ Finset.Ico 2 12) (ht : 2 ≤ t) (hc : t - 1 ≤ S.card) : ∃ d ∈ S, t ≤ d := by
  by_contra h
  push Not at h
  have : S ⊆ Finset.Ico 2 t := fun d hd => Finset.mem_Ico.mpr ⟨(Finset.mem_Ico.mp (hS hd)).1, h d hd⟩
  have := Finset.card_le_card this
  rw [Nat.card_Ico] at this
  omega

theorem tr_credit (X : Bool) (t : ℕ) (ht : 2 ≤ t) (ht' : t < 12) (O : CellTallies nD τ sig ℕ) (hO : Above O (4 * t + 1)) :
    Tr c (semWaitWord (creditS X) 1#32)
      iprop(Ctx P K KS ∗ CrSt (F := F) c X t ∗ cred (tallyAt (kcell (c, .credit X)) t 1) ∗ ow c O)
      iprop(CrSt (F := F) c X (t + 1) ∗ Facts (F := F) (dst c X) X t ∗ ow c O) := by
  intro Q
  unfold ow semWaitWord
  have hw := hO.mayWait (F := F) c (.reg (creditS X)) t (by omega)
    (by rw [show ((c : Thread nD τ), SemLoc.reg (creditS X)) = kcell (c, .credit X) from rfl, lv_eq]; exact le_refl _)
  have hduty : (Rd P).duties ((c : Thread nD τ), SemLoc.reg (creditS X)) 0 = Finset.Ico 2 12 := duties_eq P c (.credit X) 0
  have hexp : (Rd P).expect ((c : Thread nD τ), SemLoc.reg (creditS X)) 0 = 10 := expect_eq P c (.credit X) 0
  have hpay (S : Finset ℕ) : bigSep S (fun d => (Rd P).payload ((c : Thread nD τ), SemLoc.reg (creditS X)) 0 d)
      = bigSep S fun d => Facts (F := F) (dst c X) X d := bigSep_congr fun d _ => payload_eq P c (.credit X) 0 d
  rw [show CrSt (F := F) c X t = iprop(∃ S : Finset ℕ, ⌜S ⊆ Finset.Ico 2 12 ∧ t - 2 ≤ S.card⌝ ∗ atPos ER (kcell (c, .credit X)) 0 S (t - 2)
    ∗ bigSep S fun d => Facts (F := F) (dst c X) X d) from if_pos ht']
  iintro ⟨#HC, ⟨%S, %hS, Hat, #HF⟩, Hc, ⟨%W, HO⟩⟩ Hk
  ihave #HI := Ctx.cell P K KS (c, .credit X) $$ HC
  ihave #HL := Ctx.lev P K KS $$ HC
  by_cases hlast : t = 11
  · subst hlast
    iapply (Rounds.wp_wait_rest_token 𝒱₀ ER (Rd P) (c : Thread nD τ) none (κ := K (c, .credit X)) (sm := .reg (creditS X))
      (wpE_semWait_eq 𝒱₀ (c : Thread nD τ) none Set.univ) (Set.mem_univ _) 11 (O := O) (W := W) (R := 0) (m := 9) (T := S)
      (by rw [hexp]; decide)) $$ [Hc HO Hat]
    · isplitr; · iexact HI
      isplitl [Hc]; · iexact Hc
      isplitl [HO]; · iexact HO
      isplitr; · iapply hw; iexact HL
      iexact Hat
    iintro ⟨HO, Hat, -, Hpay⟩
    rw [wp_ret]; imodintro
    iapply Hk
    isplitl [Hat]; · unfold CrSt; rw [if_neg (by decide)]; iexact Hat
    isplitr [HO]
    · ihave Hpay := (Entails.of_eq ((congrArg (fun T => bigSep (T \ S) _) hduty).trans (hpay _))) $$ Hpay
      by_cases h : 11 ∈ S
      · have e : (bigSep S (fun d => Facts (F := F) (dst c X) X d) : sProp 𝕄) ⊢ Facts (F := F) (dst c X) X 11 := bigSep_elim h
        iapply e; iexact HF
      · have e : (bigSep (Finset.Ico 2 12 \ S) (fun d => Facts (F := F) (dst c X) X d) : sProp 𝕄) ⊢ Facts (F := F) (dst c X) X 11 :=
          bigSep_elim (Finset.mem_sdiff.mpr ⟨by decide, h⟩)
        iapply e; iexact Hpay
    iexists _; iexact HO
  · iapply (Rounds.wp_wait 𝒱₀ ER (Rd P) (c : Thread nD τ) none (κ := K (c, .credit X)) (sm := .reg (creditS X))
      (wpE_semWait_eq 𝒱₀ (c : Thread nD τ) none Set.univ) (Set.mem_univ _) (cr := Finsupp.single t 1) (O := O) (W := W)
      {(.reg (creditS X), t)} (R := 0) (m := t - 2) (T := S)
      (by rw [Util.total_single]; decide) (image_single_subset _ t 1)) $$ [Hc HO Hat]
    · isplitr; · iexact HI
      isplitl [Hc]; · iexact Hc
      isplitl [HO]; · iexact HO
      isplitr; · iapply hw; iexact HL
      iexact Hat
    iintro %S' ⟨%hS', HO, Hat, Hpay⟩
    rw [hduty, hexp] at hS'
    obtain ⟨hsub, hS2, hcard⟩ := hS'
    have h1 : t - 1 ≤ S'.card := by
      rw [Finset.card_sdiff_of_subset hS2, Nat.card_Ico] at hcard
      have := Finset.card_le_card hS2; rw [Nat.card_Ico] at this
      rw [show (1#32 : BitVec 32).toNat = 1 from rfl] at hcard
      omega
    rw [wp_ret]; imodintro
    iapply Hk
    ihave Hpay := (Entails.of_eq (hpay _)) $$ Hpay
    ihave #HF' : (bigSep S' fun d => Facts (F := F) (dst c X) X d) $$ [Hpay]
    · have e : (iprop(bigSep S (fun d => Facts (F := F) (dst c X) X d) ∗ bigSep (S' \ S) (fun d => Facts (F := F) (dst c X) X d)) : sProp 𝕄)
        ⊢ bigSep S' (fun d => Facts (F := F) (dst c X) X d) :=
        (bigSep_sep_union _ _).trans (Entails.of_eq (congrArg (fun T => bigSep T _) (Finset.union_sdiff_of_subset hsub)))
      iapply e
      isplitr; · iexact HF
      iexact Hpay
    isplitl [Hat]
    · unfold CrSt; rw [if_pos (by omega)]
      iexists S'
      isplitr; · ipureintro; exact ⟨hS2, by omega⟩
      isplitl [Hat]
      · rw [show t + 1 - 2 = t - 2 + 1 from by omega]; iexact Hat
      iexact HF'
    isplitr
    · obtain ⟨d, hd, htd⟩ := exists_ge hS2 ht h1
      have e : (bigSep S' (fun d => Facts (F := F) (dst c X) X d) : sProp 𝕄) ⊢ Facts (F := F) (dst c X) X t := (bigSep_elim hd).trans (Facts.mono _ X htd)
      iapply e; iexact HF'
    iexists _; iexact HO

/-! ## The opening handshake -/

/-- One of its two signals: to the device whose destination in direction `X` this one is. -/
def barDuty : Bool → ℕ := fun | false => 0 | true => 1

theorem tr_barSignal (X : Bool) (O O' : CellTallies nD τ sig ℕ) (hO : O = O' + tallyAt (kcell (src c X, .bar)) 0 1) :
    Tr c (semSignalWord (dFrom c X) barS 1#32)
      iprop(Ctx P K KS ∗ Facts (F := F) c X 1 ∗ ow c O ∗ dutyTok ER (kcell (src c X, .bar)) 0 (barDuty X))
      (ow c O') := by
  intro Q
  rw [dFrom_eq]
  unfold ow semSignalWord
  iintro ⟨#HC, #HF, ⟨%W, HO⟩, Ht⟩ Hk
  ihave #HI := Ctx.cell P K KS (src c X, .bar) $$ HC
  ihave #Hr := Ctx.reached P K KS (src c X, .bar) $$ HC
  have hp : (Rd P).payload ((src c X : Thread nD τ), SemLoc.reg barS) 0 (barDuty X) = Facts (F := F) c X 1 := by
    refine (payload_eq P (src c X) .bar 0 (barDuty X)).trans ?_
    cases X
    · show Facts (F := F) (dst (src c false) false) false 1 = _
      rw [dst_src]
    · show Facts (F := F) (dst (src c true) true) true 1 = _
      rw [dst_src]
  iapply (Rounds.wp_signal 𝒱₀ ER (Rd P) (c : Thread nD τ) none (dst := (src c X : Thread nD τ)) (sem := barS) (κ := K (src c X, .bar))
      (r := 0) (d := barDuty X)
      (by rw [show ((src c X : Thread nD τ), SemLoc.reg barS) = kcell (src c X, .bar) from rfl, duties_eq]
          cases X <;> decide)
      ((amount_eq P (src c X) .bar 0 _).trans (show amountK .bar = 1 from rfl)) 0 O' hO (W := W)) $$ [HO Ht]
  · isplitr; · iexact HI
    isplitl [HO]; · iexact HO
    isplitl [Ht]; · iexact Ht
    isplitr; · iapply (Entails.of_eq hp.symm); iexact HF
    iexact Hr
  iintro HO
  rw [wp_ret]; imodintro
  iapply Hk
  iexists W; iexact HO

theorem tr_barWait (O : CellTallies nD τ sig ℕ) (hO : Above O 1) :
    Tr c (semWaitWord barS 2#32)
      iprop(Ctx P K KS ∗ cred (tallyAt (kcell (c, .bar)) 0 2) ∗ ow c O ∗ atPos ER (kcell (c, .bar)) 0 ∅ 0)
      iprop(ow c O ∗ atPos ER (kcell (c, .bar)) 1 ∅ 0 ∗ Facts (F := F) (dst c false) false 1 ∗ Facts (F := F) (dst c true) true 1) := by
  intro Q
  unfold ow semWaitWord
  have hw := hO.mayWait (F := F) c (.reg barS) 0 (by omega)
    (by rw [show ((c : Thread nD τ), SemLoc.reg barS) = kcell (c, .bar) from rfl, lv_eq]; exact le_refl _)
  have hrest : bigSep ((Rd P).duties ((c : Thread nD τ), SemLoc.reg barS) 0 \ ∅) (fun d => (Rd P).payload ((c : Thread nD τ), SemLoc.reg barS) 0 d)
      = iprop(Facts (F := F) (dst c false) false 1 ∗ Facts (F := F) (dst c true) true 1) := by
    show bigSep ((Rd P).duties (kcell (c, .bar)) 0 \ ∅) (fun d => (Rd P).payload (kcell (c, .bar)) 0 d) = _
    rw [Finset.sdiff_empty, duties_eq, show dutiesK .bar 0 = insert 0 {1} from rfl, bigSep_insert (by decide), bigSep_singleton, payload_eq, payload_eq]
    rfl
  iintro ⟨#HC, Hc, ⟨%W, HO⟩, Hat⟩ Hk
  ihave #HI := Ctx.cell P K KS (c, .bar) $$ HC
  ihave #HL := Ctx.lev P K KS $$ HC
  iapply (Rounds.wp_wait_rest_token 𝒱₀ ER (Rd P) (c : Thread nD τ) none (κ := K (c, .bar)) (sm := .reg barS)
    (wpE_semWait_eq 𝒱₀ (c : Thread nD τ) none Set.univ) (Set.mem_univ _) 0 (O := O) (W := W) (R := 0) (m := 0) (T := ∅)
    (by rw [show ((c : Thread nD τ), SemLoc.reg barS) = kcell (c, .bar) from rfl, expect_eq]; decide)) $$ [Hc HO Hat]
  · isplitr; · iexact HI
    isplitl [Hc]; · iexact Hc
    isplitl [HO]; · iexact HO
    isplitr; · iapply hw; iexact HL
    iexact Hat
  iintro ⟨HO, Hat, -, Hpay⟩
  ihave Hp := (Entails.of_eq hrest) $$ Hpay
  icases Hp with ⟨#H0, #H1⟩
  rw [wp_ret]; imodintro
  iapply Hk
  isplitl [HO]; · iexists _; iexact HO
  isplitl [Hat]; · iexact Hat
  isplitr; · iexact H0
  iexact H1

end Comm

end Cert.RingIdeal

end
-- ==== Proof.Blocks.lean ====
/- What a lane (one direction, one half) holds between blocks, and the two parts all blocks share: the waits for the
   previous round's transfers, and the credits followed by the sends. -/
module

public import proofs.«01_k».proof.Proof.Steps

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (P : Ops F) (K : Dev nD × CK → ℕ) (KS : SK → ℕ) (c : Dev nD)

/-- For both directions. -/
abbrev both (Φ : Bool → sProp 𝕄) : sProp 𝕄 := iprop(Φ false ∗ Φ true)

/-! ## What a lane holds -/

/-- What round `h` of direction `X`, half `s`, will use: the tokens of its send and of the credit before it. -/
def RT (X : Bool) (s : Fin 2) (h : ℕ) : sProp 𝕄 :=
  iprop(dutyTok ER (kcell (c, .send X s)) h 0 ∗ dutyTok ER (kcell (dst c X, .recv X s)) h 0 ∗ writeTok (ES (F := F)) (dst c X, X, s) (h + 1)
    ∗ cred (tallyAt (kcell (c, .recv X s)) (2 * h + s.val) N)
    ∗ if 1 ≤ h then iprop(dutyTok ER (kcell (src c X, .credit X)) 0 (2 * h + s.val) ∗ cred (tallyAt (kcell (c, .credit X)) (2 * h + s.val) 1)) else iprop(emp))
/-- From round `h` on. -/
def Toks (X : Bool) (s : Fin 2) (h : ℕ) : sProp 𝕄 := bigSep (Finset.Ico h 6) (RT (F := F) c X s)

/-- What the copy of piece `i` will use, from piece `i` on; and the pieces already written, up to `i`. -/
def CT (X : Bool) (s : Fin 2) (i : ℕ) : sProp 𝕄 :=
  bigSep (Finset.Ico i 4) fun i => iprop(dutyTok (ER (F := F)) (kcell (c, .copy X s)) i 0 ∗ ∃ v, own c (outV c X i s) fullShare v)
def Done (X : Bool) (s : Fin 2) (i : ℕ) : sProp 𝕄 := bigSep (Finset.range i) fun i => own c (outV c X i s) fullShare (OV P X i s c)

theorem Toks.take (X : Bool) (s : Fin 2) (h : ℕ) (hh : h < 6) : Toks (F := F) c X s h ⊢ iprop(RT (F := F) c X s h ∗ Toks (F := F) c X s (h + 1)) := by
  unfold Toks; rw [Ico_cons hh]; exact Entails.of_eq (bigSep_insert (not_mem_Ico_succ h 6))
theorem CT.take (X : Bool) (s : Fin 2) (i : ℕ) (hi : i < 4) :
    CT (F := F) c X s i ⊢ iprop((dutyTok (ER (F := F)) (kcell (c, .copy X s)) i 0 ∗ ∃ v, own c (outV c X i s) fullShare v) ∗ CT (F := F) c X s (i + 1)) := by
  unfold CT; rw [Ico_cons hi]; exact Entails.of_eq (bigSep_insert (not_mem_Ico_succ i 4))
theorem Done.put (X : Bool) (s : Fin 2) (i : ℕ) : iprop(Done P c X s i ∗ own c (outV c X i s) fullShare (OV P X i s c)) ⊢ Done P c X s (i + 1) := by
  unfold Done; rw [Finset.range_add_one]
  have e : (iprop(own c (outV c X i s) fullShare (OV P X i s c) ∗ bigSep (Finset.range i) fun i => own c (outV c X i s) fullShare (OV P X i s c)) : sProp 𝕄)
      ⊢ bigSep (insert i (Finset.range i)) fun i => own c (outV c X i s) fullShare (OV P X i s c) :=
    Entails.of_eq (bigSep_insert (Φ := fun i => own c (outV c X i s) fullShare (OV P X i s c)) (Finset.notMem_range_self (n := i))).symm
  iintro ⟨H, Hi⟩
  iapply e
  isplitl [Hi] <;> iassumption
theorem Done.zero (X : Bool) (s : Fin 2) : (emp : sProp 𝕄) ⊢ Done P c X s 0 := by
  unfold Done; rw [Finset.range_zero, bigSep_empty]; exact BI.Entails.refl _

/-- Round `g` has been sent and the next not begun. -/
def LS (X : Bool) (s : Fin 2) (g : ℕ) : sProp 𝕄 :=
  iprop(atPos ER (kcell (c, .send X s)) g ∅ 0 ∗ cred (tallyAt (kcell (c, .send X s)) 0 N)
    ∗ atPos ER (kcell (c, .recv X s)) g ∅ 0 ∗ cred (tallyAt (kcell (c, .recv X s)) (2 * g + s.val) N)
    ∗ readerAt (ES (F := F)) (c, X, s) (g + 1) ∗ Toks (F := F) c X s (g + 1))
/-- Both of its transfers are waited for: the send's share is `a`, what the receive half holds `b`. -/
def LW (X : Bool) (s : Fin 2) (h : ℕ) (a b : FVec F S512x1024 .f32) : sProp 𝕄 :=
  iprop((atPos ER (kcell (c, .send X s)) h ∅ 0 ∗ reached ER (kcell (c, .send X s)) h)
    ∗ (atPos ER (kcell (c, .recv X s)) h ∅ 0 ∗ reached ER (kcell (c, .recv X s)) h)
    ∗ readerAt (ES (F := F)) (c, X, s) h ∗ Toks (F := F) c X s h
    ∗ own c (halfV (accM X) s) fullShare.right a ∗ own c (halfV (recvM X) s) fullShare b)

/-- The accumulator's other share, and the copies' state: before the first of them, and with copy `i` on its way. -/
def PA (X : Bool) (s : Fin 2) (g : ℕ) : sProp 𝕄 :=
  iprop(own c (halfV (accM X) s) fullShare.left (D P X g s c) ∗ atPos ER (kcell (c, .copy X s)) 0 ∅ 0 ∗ CT (F := F) c X s 0)
def PB (X : Bool) (s : Fin 2) (i : ℕ) : sProp 𝕄 :=
  iprop(atPos ER (kcell (c, .copy X s)) i ∅ 0 ∗ cred (tallyAt (kcell (c, .copy X s)) 0 N) ∗ CT (F := F) c X s (i + 1) ∗ Done P c X s i)

/-- Credits before transfer `t`: where the device stands on its credit cell, and what it can tell its source. -/
def Cr (X : Bool) (t : ℕ) : sProp 𝕄 := iprop(CrSt (F := F) c X t ∗ Facts (F := F) c X (t - 1))

/-! ## The parts of a block -/

theorem tr_waits (s : Fin 2) (g : ℕ) (hg : g < 6) (O : CellTallies nD τ sig ℕ) (hO : Above O (4 * (2 * g + s.val) + 2)) :
    Tr c (waits s) iprop(Ctx P K KS ∗ both (fun X => LS (F := F) c X s g) ∗ ow c O)
      iprop(both (fun X => LW (F := F) c X s (g + 1) (D P X g s c) (D P X g s (src c X))) ∗ ow c O) := by
  intro Q
  have hO0 : Above O 0 := fun g u h => ⟨(hO g u h).1, lt_of_le_of_lt (Nat.zero_le _) (hO g u h).2⟩
  have hs := s.isLt
  unfold waits both LS LW
  iintro ⟨#HC, ⟨⟨HsA, HcA, HrA, HdA, HrdA, HtA⟩, ⟨HsB, HcB, HrB, HdB, HrdB, HtB⟩⟩, HO⟩ Hk
  rw [WP.bind]
  iapply (tr_waitSend P K KS c false s g hg O hO0) $$ [HsA HcA HO]
  · isplitr; · iexact HC
    isplitl [HcA]; · iexact HcA
    isplitl [HO] <;> iassumption
  iintro ⟨HO, HsA, #HsrA, HaA⟩
  rw [WP.bind]
  iapply (tr_waitSend P K KS c true s g hg O hO0) $$ [HsB HcB HO]
  · isplitr; · iexact HC
    isplitl [HcB]; · iexact HcB
    isplitl [HO] <;> iassumption
  iintro ⟨HO, HsB, #HsrB, HaB⟩
  rw [WP.bind]
  iapply (tr_waitRecv P K KS c false s g _ hg (by omega) O hO) $$ [HrA HdA HO]
  · isplitr; · iexact HC
    isplitl [HdA]; · iexact HdA
    isplitl [HO] <;> iassumption
  iintro ⟨HO, HrA, #HrrA, HbA⟩
  iapply (tr_waitRecv P K KS c true s g _ hg (by omega) O hO) $$ [HrB HdB HO]
  · isplitr; · iexact HC
    isplitl [HdB]; · iexact HdB
    isplitl [HO] <;> iassumption
  iintro ⟨HO, HrB, #HrrB, HbB⟩
  iapply Hk
  isplitr [HO]
  · isplitl [HsA HrA HrdA HtA HaA HbA]
    · isplitl [HsA]
      · isplitl [HsA]; · iexact HsA
        iexact HsrA
      isplitl [HrA]
      · isplitl [HrA]; · iexact HrA
        iexact HrrA
      isplitl [HrdA]; · iexact HrdA
      isplitl [HtA]; · iexact HtA
      isplitl [HaA] <;> iassumption
    · isplitl [HsB]
      · isplitl [HsB]; · iexact HsB
        iexact HsrB
      isplitl [HrB]
      · isplitl [HrB]; · iexact HrB
        iexact HrrB
      isplitl [HrdB]; · iexact HrdB
      isplitl [HtB]; · iexact HtB
      isplitl [HaB] <;> iassumption
  iexact HO

/-- One device's facts, one transfer on. -/
theorem Facts.step (X : Bool) (s : Fin 2) (h : ℕ) (hh : 1 ≤ h) :
    iprop(Facts (F := F) c X (2 * h + s.val - 1) ∗ Fact (F := F) c X s h) ⊢ Facts (F := F) c X (2 * h + s.val) := by
  unfold Facts
  match s with
  | 0 =>
    simp only [Fin.val_zero, Nat.add_zero]
    rw [show (2 * h) / 2 = h by omega, show (2 * h - 1 - 1) / 2 = (2 * h - 1) / 2 by omega]
    iintro ⟨⟨-, H⟩, H'⟩
    isplitl [H'] <;> iassumption
  | 1 =>
    simp only [Fin.val_one]
    rw [show (2 * h + 1) / 2 = (2 * h + 1 - 1) / 2 by omega, show (2 * h + 1 - 1) / 2 = h by omega]
    iintro ⟨⟨H, -⟩, H'⟩
    isplitl [H] <;> iassumption
theorem Facts.fact (d : Dev nD) (X : Bool) (s : Fin 2) (h : ℕ) : Facts (F := F) d X (2 * h + s.val) ⊢ Fact (F := F) d X s h := by
  unfold Facts
  match s with
  | 0 => rw [show (2 * h + (0 : Fin 2).val) / 2 = h by simp]; iintro ⟨H, -⟩; iexact H
  | 1 => rw [show (2 * h + (1 : Fin 2).val - 1) / 2 = h by simp]; iintro ⟨-, H⟩; iexact H

theorem halfOf_eq (h : ℕ) (s : Fin 2) : halfOf (2 * h + s.val) = s := Fin.ext (by show (2 * h + s.val) % 2 = s.val; have := s.isLt; omega)

/-- Before the credits: the receive half is read, the accumulator's share for the send holds the round's value. -/
theorem tr_creditSend (s : Fin 2) (h : ℕ) (hh : 1 ≤ h) (hh' : h < 6) (b : Bool → FVec F S512x1024 .f32) :
    Tr c (do credits c; bothSend c s)
      iprop(Ctx P K KS ∗ both (fun X => LW (F := F) c X s h (D P X h s c) (b X)) ∗ both (fun X => Cr (F := F) c X (2 * h + s.val)) ∗ ow c (owe c (2 * h + s.val)))
      iprop(both (fun X => LS (F := F) c X s h) ∗ both (fun X => Cr (F := F) c X (2 * h + s.val + 1)) ∗ ow c (owe c (2 * h + s.val + 1))) := by
  intro Q
  have hs := s.isLt
  have ho := owe_ge c (2 * h + s.val) (by omega) (by omega)
  rw [halfOf_eq] at ho
  have hA1 : Above (owe c (2 * h + s.val + 1) + oweS c s (2 * h + s.val)) (4 * (2 * h + s.val) + 1) :=
    (above_owe c _ _ (by omega) (by omega)).add (above_oweS c s _ _ (by omega) (by omega))
  unfold credits bothSend both LS LW Cr
  iintro ⟨#HC, ⟨⟨⟨HsA, #HsrA⟩, ⟨HrA, #HrrA⟩, HrdA, HtA, HaA, HbA⟩, ⟨⟨HsB, #HsrB⟩, ⟨HrB, #HrrB⟩, HrdB, HtB, HaB, HbB⟩⟩,
    ⟨⟨HcsA, #HfA⟩, ⟨HcsB, #HfB⟩⟩, HO⟩ Hk
  -- the receive halves go back to their slots
  ihave HbA := (anyH_intro c (recvM false) s _) $$ HbA
  ihave HbB := (anyH_intro c (recvM true) s _) $$ HbB
  imod (release P K KS c false s h) $$ [HbA HrdA] with ⟨HrdA, #HnA⟩
  · isplitr; · iexact HC
    isplitl [HbA]; · iexact HbA
    isplitl [HrdA]; · iexact HrdA
    iexact HrrA
  imod (release P K KS c true s h) $$ [HbB HrdB] with ⟨HrdB, #HnB⟩
  · isplitr; · iexact HC
    isplitl [HbB]; · iexact HbB
    isplitl [HrdB]; · iexact HrdB
    iexact HrrB
  ihave #HgA := (Facts.step (F := F) c false s h hh) $$ []
  · isplitr; · iexact HfA
    iexact HnA
  ihave #HgB := (Facts.step (F := F) c true s h hh) $$ []
  · isplitr; · iexact HfB
    iexact HnB
  -- this round's tokens
  ihave HtA := (Toks.take (F := F) c false s h hh') $$ HtA
  ihave HtB := (Toks.take (F := F) c true s h hh') $$ HtB
  unfold RT
  rw [if_pos hh, if_pos hh]
  icases HtA with ⟨⟨HtsA, HtrA, HwA, HdA, HtcA, HccA⟩, HtA⟩
  icases HtB with ⟨⟨HtsB, HtrB, HwB, HdB, HtcB, HccB⟩, HtB⟩
  simp only [bind_assoc]
  rw [WP.bind']
  iapply (tr_signal P K KS c false (2 * h + s.val) (by omega) (by omega) (owe c (2 * h + s.val))
    (owe c (2 * h + s.val + 1) + oweS c s (2 * h + s.val) + tallyAt (kcell (src c true, .credit true)) (2 * h + s.val) 1)
    (ho.trans (add_assoc _ _ _).symm)) $$ [HO HtcA]
  · isplitr; · iexact HC
    isplitr; · iexact HgA
    isplitl [HO] <;> iassumption
  iintro HO
  rw [WP.bind]
  iapply (tr_signal P K KS c true (2 * h + s.val) (by omega) (by omega) _ (owe c (2 * h + s.val + 1) + oweS c s (2 * h + s.val)) rfl) $$ [HO HtcB]
  · isplitr; · iexact HC
    isplitr; · iexact HgB
    isplitl [HO] <;> iassumption
  iintro HO
  rw [WP.bind]
  iapply (tr_credit P K KS c false (2 * h + s.val) (by omega) (by omega) _ hA1) $$ [HO HcsA HccA]
  · isplitr; · iexact HC
    isplitl [HcsA]; · iexact HcsA
    isplitl [HccA] <;> iassumption
  iintro ⟨HcsA, #HeA, HO⟩
  rw [WP.bind]
  iapply (tr_credit P K KS c true (2 * h + s.val) (by omega) (by omega) _ hA1) $$ [HO HcsB HccB]
  · isplitr; · iexact HC
    isplitl [HcsB]; · iexact HcsB
    isplitl [HccB] <;> iassumption
  iintro ⟨HcsB, #HeB, HO⟩
  rw [WP.bind]
  iapply (tr_send P K KS c false s h (2 * h + s.val) hh' (owe c (2 * h + s.val + 1) + oweS c s (2 * h + s.val)) (owe c (2 * h + s.val + 1) + tallyAt (kcell (dst c true, .recv true s)) (2 * h + s.val) N)
    (add_assoc _ _ _).symm) $$ [HO HaA HtsA HtrA HwA]
  · isplitr; · iexact HC
    isplitr; · iapply (Facts.fact (F := F) (dst c false) false s h); iexact HeA
    isplitl [HaA]; · iexact HaA
    isplitl [HO]; · iexact HO
    isplitl [HtsA]; · iexact HtsA
    isplitr; · iexact HsrA
    isplitl [HtrA] <;> iassumption
  iintro ⟨HcA, HO⟩
  iapply (tr_send P K KS c true s h (2 * h + s.val) hh' (owe c (2 * h + s.val + 1) + tallyAt (kcell (dst c true, .recv true s)) (2 * h + s.val) N) (owe c (2 * h + s.val + 1)) rfl) $$ [HO HaB HtsB HtrB HwB]
  · isplitr; · iexact HC
    isplitr; · iapply (Facts.fact (F := F) (dst c true) true s h); iexact HeB
    isplitl [HaB]; · iexact HaB
    isplitl [HO]; · iexact HO
    isplitl [HtsB]; · iexact HtsB
    isplitr; · iexact HsrB
    isplitl [HtrB] <;> iassumption
  iintro ⟨HcB, HO⟩
  iapply Hk
  isplitl [HsA HcA HrA HdA HrdA HtA HsB HcB HrB HdB HrdB HtB]
  · isplitl [HsA HcA HrA HdA HrdA HtA]
    · isplitl [HsA]; · iexact HsA
      isplitl [HcA]; · iexact HcA
      isplitl [HrA]; · iexact HrA
      isplitl [HdA]; · iexact HdA
      isplitl [HrdA] <;> iassumption
    · isplitl [HsB]; · iexact HsB
      isplitl [HcB]; · iexact HcB
      isplitl [HrB]; · iexact HrB
      isplitl [HdB]; · iexact HdB
      isplitl [HrdB] <;> iassumption
  isplitr [HO]
  · isplitl [HcsA]
    · isplitl [HcsA]; · iexact HcsA
      iexact HgA
    · isplitl [HcsB]; · iexact HcsB
      iexact HgB
  iexact HO

/-! ## The accumulator -/

theorem own_split (m : Memref sig .tc .vmem S512x1024 .f32) (v : FVec F S512x1024 .f32) :
    own c m fullShare v ⊢ iprop(own c m fullShare.left v ∗ own c m fullShare.right v) := (owns_halves (Val := Elt F) (c : Thread nD τ) m fullShare v).1
theorem own_join (m : Memref sig .tc .vmem S512x1024 .f32) (v : FVec F S512x1024 .f32) :
    iprop(own c m fullShare.left v ∗ own c m fullShare.right v) ⊢ own c m fullShare v := (owns_halves (Val := Elt F) (c : Thread nD τ) m fullShare v).2

/-- A step that reads what arrived and rewrites the accumulator, on a lane whose send has given its share back. -/
theorem tr_lane (p : Prog (TpuEff nD τ sig (Elt F) Λ₀ .tc) PUnit) (X : Bool) (s : Fin 2) (h : ℕ) (a b v : FVec F S512x1024 .f32) (R R' : sProp 𝕄)
    (H : Tr c p iprop(own c (halfV (recvM X) s) fullShare b ∗ R ∗ anyH c (accM X) s)
      iprop(own c (halfV (recvM X) s) fullShare b ∗ R' ∗ own c (halfV (accM X) s) fullShare v)) :
    Tr c p iprop(LW (F := F) c X s h a b ∗ own c (halfV (accM X) s) fullShare.left a ∗ R)
      iprop(LW (F := F) c X s h v b ∗ own c (halfV (accM X) s) fullShare.left v ∗ R') := by
  intro Q
  unfold LW
  iintro ⟨⟨Hs, Hr, Hrd, Ht, Ha, Hb⟩, Hl, HR⟩ Hk
  ihave Ha := (own_join c (halfV (accM X) s) a) $$ [Hl Ha]
  · isplitl [Hl] <;> iassumption
  ihave Ha := (anyH_intro c (accM X) s a) $$ Ha
  iapply H $$ [Hb HR Ha]
  · isplitl [Hb]; · iexact Hb
    isplitl [HR] <;> iassumption
  iintro ⟨Hb, HR, Ha⟩
  ihave Ha := (own_split c (halfV (accM X) s) v) $$ Ha
  icases Ha with ⟨Hl, Ha⟩
  iapply Hk
  isplitl [Hs Hr Hrd Ht Ha Hb]
  · isplitl [Hs]; · iexact Hs
    isplitl [Hr]; · iexact Hr
    isplitl [Hrd]; · iexact Hrd
    isplitl [Ht]; · iexact Ht
    isplitl [Ha] <;> iassumption
  isplitl [Hl] <;> iassumption

theorem tr_laneFwd (X : Bool) (s : Fin 2) (h : ℕ) (a b : FVec F S512x1024 .f32) :
    Tr c (stepFwd X s) iprop(LW (F := F) c X s h a b ∗ own c (halfV (accM X) s) fullShare.left a)
      iprop(LW (F := F) c X s h (fwd b) b ∗ own c (halfV (accM X) s) fullShare.left (fwd b)) := by
  intro Q
  iintro ⟨HL, Ha⟩ Hk
  iapply (tr_lane c (stepFwd X s) X s h a b (fwd b) iprop(emp) iprop(emp) (by
    intro Q
    iintro ⟨Hb, -, Ha⟩ Hk
    iapply (tr_fwd c X s fullShare b) $$ [Hb Ha]
    · isplitl [Hb] <;> iassumption
    iintro ⟨Hb, Ha⟩
    iapply Hk
    isplitl [Hb]; · iexact Hb
    isplitr; · iempintro
    iexact Ha)) $$ [HL Ha]
  · isplitl [HL]; · iexact HL
    isplitl [Ha]; · iexact Ha
    iempintro
  iintro ⟨HL, Ha, -⟩
  iapply Hk
  isplitl [HL] <;> iassumption

/-! ## The copies to the result -/

theorem tr_laneCopy (X : Bool) (s : Fin 2) (i : ℕ) (hi : i < 4) (m : Memref sig .tc .vmem S1024x1024 .f32) (hm : copySrc X i = m) :
    Tr c (copy m c X i s)
      iprop(Ctx P K KS ∗ own c (halfV m s) (copyShare i) (OV P X i s c) ∗ CT (F := F) c X s i ∗ reached ER (kcell (c, .copy X s)) i)
      iprop(cred (tallyAt (kcell (c, .copy X s)) 0 N) ∗ CT (F := F) c X s (i + 1)) := by
  intro Q
  iintro ⟨#HC, Hm, HT, #Hr⟩ Hk
  ihave HT := (CT.take (F := F) c X s i hi) $$ HT
  icases HT with ⟨⟨Ht, %v, Ho⟩, HT⟩
  iapply (tr_copy P K KS c X s i hi v m hm) $$ [Hm Ho Ht]
  · isplitr; · iexact HC
    isplitl [Hm]; · iexact Hm
    isplitl [Ho]; · iexact Ho
    isplitl [Ht]; · iexact Ht
    iexact Hr
  iintro Hc
  iapply Hk
  isplitl [Hc] <;> iassumption

theorem tr_laneWaitCopy (m : Memref sig .tc .vmem S1024x1024 .f32) (X : Bool) (s : Fin 2) (i : ℕ) (hi : i < 4) (O : CellTallies nD τ sig ℕ) (hO : Above O 0) :
    Tr c (waitCopy m c X i s) iprop(Ctx P K KS ∗ PB P c X s i ∗ ow c O)
      iprop(ow c O ∗ (atPos ER (kcell (c, .copy X s)) (i + 1) ∅ 0 ∗ reached ER (kcell (c, .copy X s)) (i + 1)) ∗ CT (F := F) c X s (i + 1)
        ∗ Done P c X s (i + 1) ∗ own c (halfV (copySrc X i) s) (copyShare i) (OV P X i s c)) := by
  intro Q
  unfold PB
  iintro ⟨#HC, ⟨Hp, Hc, HT, HD⟩, HO⟩ Hk
  iapply (tr_waitCopy P K KS c m X s i hi O hO) $$ [Hp Hc HO]
  · isplitr; · iexact HC
    isplitl [Hc]; · iexact Hc
    isplitl [HO] <;> iassumption
  unfold copyPay
  iintro ⟨HO, Hp, #Hr, Ho, Hm⟩
  ihave HD := (Done.put P c X s i) $$ [HD Ho]
  · isplitl [HD] <;> iassumption
  iapply Hk
  isplitl [HO]; · iexact HO
  isplitl [Hp]
  · isplitl [Hp]; · iexact Hp
    iexact Hr
  isplitl [HT]; · iexact HT
  isplitl [HD] <;> iassumption

/-! ## The blocks -/

/-- A lane before its first round. -/
def L0 (X : Bool) (s : Fin 2) : sProp 𝕄 :=
  iprop(atPos ER (kcell (c, .send X s)) 0 ∅ 0 ∗ atPos ER (kcell (c, .recv X s)) 0 ∅ 0 ∗ readerAt (ES (F := F)) (c, X, s) 1 ∗ Toks (F := F) c X s 0
    ∗ anyH c (accM X) s ∗ atPos ER (kcell (c, .copy X s)) 0 ∅ 0 ∗ CT (F := F) c X s 0)

theorem Facts.first (d : Dev nD) (X : Bool) (s : Fin 2) : Facts (F := F) d X 1 ⊢ Fact (F := F) d X s 0 := by
  unfold Facts
  match s with
  | 0 => iintro ⟨H, -⟩; iexact H
  | 1 => iintro ⟨-, H⟩; iexact H

theorem tr_blk0 (s : Fin 2) :
    Tr c (blk0 c s) iprop(Ctx P K KS ∗ both (fun X => L0 (F := F) c X s) ∗ stg P c ∗ both (fun X => Facts (F := F) (dst c X) X 1) ∗ ow c (owe c s.val))
      iprop(both (fun X => iprop(LS (F := F) c X s 0 ∗ PA P c X s 0)) ∗ stg P c ∗ ow c (owe c (s.val + 1))) := by
  intro Q
  have hs := s.isLt
  have ho := owe_lt c s.val hs
  rw [show halfOf s.val = s from Fin.ext (Nat.mod_eq_of_lt hs)] at ho
  unfold blk0 bothSend both L0 LS PA
  iintro ⟨#HC, ⟨⟨HsA, HrA, HrdA, HtA, HaA, HpA, HTA⟩, ⟨HsB, HrB, HrdB, HtB, HaB, HpB, HTB⟩⟩, Hst, ⟨#HfA, #HfB⟩, HO⟩ Hk
  ihave HtA := (Toks.take (F := F) c false s 0 (by omega)) $$ HtA
  ihave HtB := (Toks.take (F := F) c true s 0 (by omega)) $$ HtB
  unfold RT
  icases HtA with ⟨⟨HtsA, HtrA, HwA, HdA, -⟩, HtA⟩
  icases HtB with ⟨⟨HtsB, HtrB, HwB, HdB, -⟩, HtB⟩
  ihave #HsrA := (Ctx.reached P K KS (c, .send false s)) $$ HC
  ihave #HsrB := (Ctx.reached P K KS (c, .send true s)) $$ HC
  rw [WP.bind]
  iapply (tr_mul P c (accM false) false 0 s) $$ [Hst HaA]
  · isplitl [Hst] <;> iassumption
  iintro ⟨Hst, HaA⟩
  rw [WP.bind]
  iapply (tr_mul P c (accM true) true 0 s) $$ [Hst HaB]
  · isplitl [Hst] <;> iassumption
  iintro ⟨Hst, HaB⟩
  ihave HaA := (own_split c (halfV (accM false) s) (PV P false 0 s c)) $$ HaA
  ihave HaB := (own_split c (halfV (accM true) s) (PV P true 0 s c)) $$ HaB
  icases HaA with ⟨HlA, HaA⟩
  icases HaB with ⟨HlB, HaB⟩
  rw [WP.bind]
  iapply (tr_send P K KS c false s 0 s.val (by omega) (owe c s.val) (owe c (s.val + 1) + tallyAt (kcell (dst c true, .recv true s)) s.val N)
    (ho.trans (add_assoc _ _ _).symm)) $$ [HO HaA HtsA HtrA HwA]
  · isplitr; · iexact HC
    isplitr; · iapply (Facts.first (F := F) (dst c false) false s); iexact HfA
    isplitl [HaA]; · iexact HaA
    isplitl [HO]; · iexact HO
    isplitl [HtsA]; · iexact HtsA
    isplitr; · iexact HsrA
    isplitl [HtrA] <;> iassumption
  iintro ⟨HcA, HO⟩
  iapply (tr_send P K KS c true s 0 s.val (by omega) _ (owe c (s.val + 1)) rfl) $$ [HO HaB HtsB HtrB HwB]
  · isplitr; · iexact HC
    isplitr; · iapply (Facts.first (F := F) (dst c true) true s); iexact HfB
    isplitl [HaB]; · iexact HaB
    isplitl [HO]; · iexact HO
    isplitl [HtsB]; · iexact HtsB
    isplitr; · iexact HsrB
    isplitl [HtrB] <;> iassumption
  iintro ⟨HcB, HO⟩
  rw [Nat.mul_zero, Nat.zero_add]
  iapply Hk
  isplitr [Hst HO]
  · isplitl [HsA HcA HrA HdA HrdA HtA HlA HpA HTA]
    · isplitr [HlA HpA HTA]
      · isplitl [HsA]; · iexact HsA
        isplitl [HcA]; · iexact HcA
        isplitl [HrA]; · iexact HrA
        isplitl [HdA]; · iexact HdA
        isplitl [HrdA] <;> iassumption
      · isplitl [HlA]; · iexact HlA
        isplitl [HpA] <;> iassumption
    · isplitr [HlB HpB HTB]
      · isplitl [HsB]; · iexact HsB
        isplitl [HcB]; · iexact HcB
        isplitl [HrB]; · iexact HrB
        isplitl [HdB]; · iexact HdB
        isplitl [HrdB] <;> iassumption
      · isplitl [HlB]; · iexact HlB
        isplitl [HpB] <;> iassumption
  isplitl [Hst] <;> iassumption

theorem above_waits (g : ℕ) (s : Fin 2) : Above (owe c (2 * (g + 1) + s.val)) (4 * (2 * g + s.val) + 2) := above_owe c _ _ (by omega) (by omega)

theorem tr_blkAdd (s : Fin 2) (g : ℕ) (hg : g < 2) :
    Tr c (blkAdd c s)
      iprop(Ctx P K KS ∗ both (fun X => iprop(LS (F := F) c X s g ∗ PA P c X s g ∗ own c (halfV (pnxM X) s) fullShare (PV P X (g + 1) s c)))
        ∗ both (fun X => Cr (F := F) c X (2 * (g + 1) + s.val)) ∗ ow c (owe c (2 * (g + 1) + s.val)))
      iprop(both (fun X => iprop(LS (F := F) c X s (g + 1) ∗ PA P c X s (g + 1) ∗ anyH c (pnxM X) s))
        ∗ both (fun X => Cr (F := F) c X (2 * (g + 1) + s.val + 1)) ∗ ow c (owe c (2 * (g + 1) + s.val + 1))) := by
  intro Q
  have hs := s.isLt
  have hD : ∀ X, add (D P X g s (src c X)) (PV P X (g + 1) s c) = D P X (g + 1) s c := fun X => by
    match g, hg with
    | 0, _ => rfl
    | 1, _ => rfl
  unfold blkAdd PA both
  iintro ⟨#HC, ⟨⟨HLA, ⟨HlA, HpA⟩, HxA⟩, ⟨HLB, ⟨HlB, HpB⟩, HxB⟩⟩, HCr, HO⟩ Hk
  rw [WP.bind]
  iapply (tr_waits P K KS c s g (by omega) _ (above_waits c g s)) $$ [HLA HLB HO]
  · isplitr; · iexact HC
    isplitl [HLA HLB]
    · isplitl [HLA] <;> iassumption
    iexact HO
  iintro ⟨⟨HLA, HLB⟩, HO⟩
  rw [WP.bind]
  iapply (tr_lane c (stepAdd false s) false s (g + 1) _ _ _ _ _ (tr_add c false s fullShare fullShare _ _)) $$ [HLA HlA HxA]
  · isplitl [HLA]; · iexact HLA
    isplitl [HlA] <;> iassumption
  iintro ⟨HLA, HlA, HxA⟩
  rw [WP.bind]
  iapply (tr_lane c (stepAdd true s) true s (g + 1) _ _ _ _ _ (tr_add c true s fullShare fullShare _ _)) $$ [HLB HlB HxB]
  · isplitl [HLB]; · iexact HLB
    isplitl [HlB] <;> iassumption
  iintro ⟨HLB, HlB, HxB⟩
  rw [hD, hD]
  iapply (tr_creditSend P K KS c s (g + 1) (by omega) (by omega) (fun X => D P X g s (src c X))) $$ [HLA HLB HCr HO]
  · isplitr; · iexact HC
    isplitl [HLA HLB]
    · isplitl [HLA] <;> iassumption
    isplitl [HCr] <;> iassumption
  iintro ⟨⟨HLA, HLB⟩, HCr, HO⟩
  iapply Hk
  isplitr [HCr HO]
  · isplitl [HLA HlA HpA HxA]
    · isplitl [HLA]; · iexact HLA
      isplitl [HlA HpA]
      · isplitl [HlA] <;> iassumption
      iapply (anyH_intro c (pnxM false) s _); iexact HxA
    · isplitl [HLB]; · iexact HLB
      isplitl [HlB HpB]
      · isplitl [HlB] <;> iassumption
      iapply (anyH_intro c (pnxM true) s _); iexact HxB
  isplitl [HCr] <;> iassumption

theorem tr_blkRelu (s : Fin 2) :
    Tr c (blkRelu c s)
      iprop(Ctx P K KS ∗ both (fun X => iprop(LS (F := F) c X s 2 ∗ PA P c X s 2 ∗ own c (halfV (pnxM X) s) fullShare (PV P X 3 s c)))
        ∗ both (fun X => Cr (F := F) c X (2 * 3 + s.val)) ∗ ow c (owe c (2 * 3 + s.val)))
      iprop(both (fun X => iprop(LS (F := F) c X s 3 ∗ PB P c X s 0 ∗ anyH c (pnxM X) s))
        ∗ both (fun X => Cr (F := F) c X (2 * 3 + s.val + 1)) ∗ ow c (owe c (2 * 3 + s.val + 1))) := by
  intro Q
  have hs := s.isLt
  unfold blkRelu copies PA PB both
  iintro ⟨#HC, ⟨⟨HLA, ⟨HlA, HpA, HTA⟩, HxA⟩, ⟨HLB, ⟨HlB, HpB, HTB⟩, HxB⟩⟩, HCr, HO⟩ Hk
  ihave #HrA := (Ctx.reached P K KS (c, .copy false s)) $$ HC
  ihave #HrB := (Ctx.reached P K KS (c, .copy true s)) $$ HC
  simp only [bind_assoc]
  rw [WP.bind]
  iapply (tr_waits P K KS c s 2 (by omega) _ (above_waits c 2 s)) $$ [HLA HLB HO]
  · isplitr; · iexact HC
    isplitl [HLA HLB]
    · isplitl [HLA] <;> iassumption
    iexact HO
  iintro ⟨⟨HLA, HLB⟩, HO⟩
  rw [WP.bind]
  iapply (tr_lane c (stepRelu false s) false s 3 _ _ _ _ _ (tr_relu c false s fullShare fullShare _ _)) $$ [HLA HlA HxA]
  · isplitl [HLA]; · iexact HLA
    isplitl [HlA] <;> iassumption
  iintro ⟨HLA, HlA, HxA⟩
  rw [WP.bind]
  iapply (tr_lane c (stepRelu true s) true s 3 _ _ _ _ _ (tr_relu c true s fullShare fullShare _ _)) $$ [HLB HlB HxB]
  · isplitl [HLB]; · iexact HLB
    isplitl [HlB] <;> iassumption
  iintro ⟨HLB, HlB, HxB⟩
  rw [WP.bind]
  iapply (tr_laneCopy P K KS c false s 0 (by omega) (accM false) rfl) $$ [HlA HTA]
  · isplitr; · iexact HC
    isplitl [HlA]; · iexact HlA
    isplitl [HTA]; · iexact HTA
    iexact HrA
  iintro ⟨HcA, HTA⟩
  rw [WP.bind]
  iapply (tr_laneCopy P K KS c true s 0 (by omega) (accM true) rfl) $$ [HlB HTB]
  · isplitr; · iexact HC
    isplitl [HlB]; · iexact HlB
    isplitl [HTB]; · iexact HTB
    iexact HrB
  iintro ⟨HcB, HTB⟩
  iapply (tr_creditSend P K KS c s 3 (by omega) (by omega) (fun X => D P X 2 s (src c X))) $$ [HLA HLB HCr HO]
  · isplitr; · iexact HC
    isplitl [HLA HLB]
    · isplitl [HLA]; · iexact HLA
      iexact HLB
    isplitl [HCr] <;> iassumption
  iintro ⟨⟨HLA, HLB⟩, HCr, HO⟩
  iapply Hk
  isplitr [HCr HO]
  · isplitl [HLA HpA HcA HTA HxA]
    · isplitl [HLA]; · iexact HLA
      isplitr [HxA]
      · isplitl [HpA]; · iexact HpA
        isplitl [HcA]; · iexact HcA
        isplitl [HTA]; · iexact HTA
        iapply (Done.zero P c false s); iempintro
      iapply (anyH_intro c (pnxM false) s _); iexact HxA
    · isplitl [HLB]; · iexact HLB
      isplitr [HxB]
      · isplitl [HpB]; · iexact HpB
        isplitl [HcB]; · iexact HcB
        isplitl [HTB]; · iexact HTB
        iapply (Done.zero P c true s); iempintro
      iapply (anyH_intro c (pnxM true) s _); iexact HxB
  isplitl [HCr] <;> iassumption

theorem OV_lt (X : Bool) (i : ℕ) (hi : i < 3) (s : Fin 2) : OV P X i s c = D P X (3 + i) s c := if_pos hi
theorem copySrc_lt (X : Bool) (i : ℕ) (hi : i < 3) : copySrc X i = accM X := if_pos hi
theorem copyShare_lt (i : ℕ) (hi : i < 3) : copyShare i = fullShare.left := if_pos hi

theorem tr_blkFwd (s : Fin 2) (i : ℕ) (hi : i < 2) :
    Tr c (blkFwd c i (i + 1) s)
      iprop(Ctx P K KS ∗ both (fun X => iprop(LS (F := F) c X s (3 + i) ∗ PB P c X s i))
        ∗ both (fun X => Cr (F := F) c X (2 * (3 + i + 1) + s.val)) ∗ ow c (owe c (2 * (3 + i + 1) + s.val)))
      iprop(both (fun X => iprop(LS (F := F) c X s (3 + i + 1) ∗ PB P c X s (i + 1)))
        ∗ both (fun X => Cr (F := F) c X (2 * (3 + i + 1) + s.val + 1)) ∗ ow c (owe c (2 * (3 + i + 1) + s.val + 1))) := by
  intro Q
  have hs := s.isLt
  have hO0 : Above (owe c (2 * (3 + i + 1) + s.val)) 0 := above_owe c _ _ (by omega) (by omega)
  have hD : ∀ X, fwd (D P X (3 + i) s (src c X)) = D P X (3 + i + 1) s c := fun X => by
    match i, hi with
    | 0, _ => rfl
    | 1, _ => rfl
  unfold blkFwd copies waitCopies both
  iintro ⟨#HC, ⟨⟨HLA, HBA⟩, ⟨HLB, HBB⟩⟩, HCr, HO⟩ Hk
  simp only [bind_assoc]
  rw [WP.bind]
  iapply (tr_waits P K KS c s (3 + i) (by omega) _ (above_waits c (3 + i) s)) $$ [HLA HLB HO]
  · isplitr; · iexact HC
    isplitl [HLA HLB]
    · isplitl [HLA] <;> iassumption
    iexact HO
  iintro ⟨⟨HLA, HLB⟩, HO⟩
  rw [WP.bind]
  iapply (tr_laneWaitCopy P K KS c (accM false) false s i (by omega) _ hO0) $$ [HBA HO]
  · isplitr; · iexact HC
    isplitl [HBA] <;> iassumption
  iintro ⟨HO, ⟨HpA, #HrA⟩, HTA, HDA, HlA⟩
  rw [WP.bind]
  iapply (tr_laneWaitCopy P K KS c (accM true) true s i (by omega) _ hO0) $$ [HBB HO]
  · isplitr; · iexact HC
    isplitl [HBB] <;> iassumption
  iintro ⟨HO, ⟨HpB, #HrB⟩, HTB, HDB, HlB⟩
  rw [OV_lt P c false i (by omega), OV_lt P c true i (by omega), copySrc_lt false i (by omega), copySrc_lt true i (by omega), copyShare_lt i (by omega)]
  rw [WP.bind]
  iapply (tr_laneFwd c false s (3 + i + 1) _ _) $$ [HLA HlA]
  · isplitl [HLA]; · iexact HLA
    iexact HlA
  iintro ⟨HLA, HlA⟩
  rw [WP.bind]
  iapply (tr_laneFwd c true s (3 + i + 1) _ _) $$ [HLB HlB]
  · isplitl [HLB]; · iexact HLB
    iexact HlB
  iintro ⟨HLB, HlB⟩
  rw [hD, hD]
  rw [WP.bind]
  iapply (tr_laneCopy P K KS c false s (i + 1) (by omega) (accM false) (copySrc_lt false _ (by omega))) $$ [HlA HTA]
  · rw [OV_lt P c false (i + 1) (by omega), copyShare_lt (i + 1) (by omega)]
    isplitr; · iexact HC
    isplitl [HlA]; · iexact HlA
    isplitl [HTA]; · iexact HTA
    iexact HrA
  iintro ⟨HcA, HTA⟩
  rw [WP.bind]
  iapply (tr_laneCopy P K KS c true s (i + 1) (by omega) (accM true) (copySrc_lt true _ (by omega))) $$ [HlB HTB]
  · rw [OV_lt P c true (i + 1) (by omega), copyShare_lt (i + 1) (by omega)]
    isplitr; · iexact HC
    isplitl [HlB]; · iexact HlB
    isplitl [HTB]; · iexact HTB
    iexact HrB
  iintro ⟨HcB, HTB⟩
  iapply (tr_creditSend P K KS c s (3 + i + 1) (by omega) (by omega) (fun X => D P X (3 + i) s (src c X))) $$ [HLA HLB HCr HO]
  · isplitr; · iexact HC
    isplitl [HLA HLB]
    · isplitl [HLA] <;> iassumption
    isplitl [HCr] <;> iassumption
  iintro ⟨⟨HLA, HLB⟩, HCr, HO⟩
  iapply Hk
  unfold PB
  isplitr [HCr HO]
  · isplitl [HLA HpA HcA HTA HDA]
    · isplitl [HLA]; · iexact HLA
      isplitl [HpA]; · iexact HpA
      isplitl [HcA]; · iexact HcA
      isplitl [HTA] <;> iassumption
    · isplitl [HLB]; · iexact HLB
      isplitl [HpB]; · iexact HpB
      isplitl [HcB]; · iexact HcB
      isplitl [HTB] <;> iassumption
  isplitl [HCr] <;> iassumption

/-- A lane whose last arrival is being copied out, its last send not yet waited for. -/
def LT (X : Bool) (s : Fin 2) : sProp 𝕄 :=
  iprop(atPos ER (kcell (c, .send X s)) 5 ∅ 0 ∗ cred (tallyAt (kcell (c, .send X s)) 0 N) ∗ atPos ER (kcell (c, .recv X s)) 6 ∅ 0
    ∗ own c (halfV (accM X) s) fullShare.left (D P X 5 s c))
/-- A lane at the end. -/
def LE (X : Bool) (s : Fin 2) : sProp 𝕄 :=
  iprop(atPos ER (kcell (c, .send X s)) 6 ∅ 0 ∗ atPos ER (kcell (c, .recv X s)) 6 ∅ 0 ∗ atPos ER (kcell (c, .copy X s)) 4 ∅ 0
    ∗ anyH c (accM X) s ∗ anyH c (recvM X) s ∗ Done P c X s 4)

theorem tr_tail1 (s : Fin 2) :
    Tr c (tail1 c s) iprop(Ctx P K KS ∗ both (fun X => iprop(LS (F := F) c X s 5 ∗ PB P c X s 2)) ∗ ow c 0)
      iprop(both (fun X => iprop(LT P c X s ∗ PB P c X s 3)) ∗ ow c 0) := by
  intro Q
  have hs := s.isLt
  unfold tail1 waitCopies both LS
  iintro ⟨#HC, ⟨⟨⟨HsA, HcA, HrA, HdA, -⟩, HBA⟩, ⟨⟨HsB, HcB, HrB, HdB, -⟩, HBB⟩⟩, HO⟩ Hk
  simp only [bind_assoc]
  rw [WP.bind]
  iapply (tr_waitRecv P K KS c false s 5 (2 * 5 + s.val) (by omega) (by omega) 0 (Above.zero _)) $$ [HrA HdA HO]
  · isplitr; · iexact HC
    isplitl [HdA]; · iexact HdA
    isplitl [HO] <;> iassumption
  iintro ⟨HO, HrA, -, HbA⟩
  rw [WP.bind]
  iapply (tr_waitRecv P K KS c true s 5 (2 * 5 + s.val) (by omega) (by omega) 0 (Above.zero _)) $$ [HrB HdB HO]
  · isplitr; · iexact HC
    isplitl [HdB]; · iexact HdB
    isplitl [HO] <;> iassumption
  iintro ⟨HO, HrB, -, HbB⟩
  rw [WP.bind]
  iapply (tr_laneWaitCopy P K KS c (accM false) false s 2 (by omega) _ (Above.zero _)) $$ [HBA HO]
  · isplitr; · iexact HC
    isplitl [HBA] <;> iassumption
  iintro ⟨HO, ⟨HpA, #HrrA⟩, HTA, HDA, HlA⟩
  rw [WP.bind]
  iapply (tr_laneWaitCopy P K KS c (accM true) true s 2 (by omega) _ (Above.zero _)) $$ [HBB HO]
  · isplitr; · iexact HC
    isplitl [HBB] <;> iassumption
  iintro ⟨HO, ⟨HpB, #HrrB⟩, HTB, HDB, HlB⟩
  rw [WP.bind]
  iapply (tr_laneCopy P K KS c false s 3 (by omega) (recvM false) rfl) $$ [HbA HTA]
  · isplitr; · iexact HC
    isplitl [HbA]; · iexact HbA
    isplitl [HTA]; · iexact HTA
    iexact HrrA
  iintro ⟨HccA, HTA⟩
  iapply (tr_laneCopy P K KS c true s 3 (by omega) (recvM true) rfl) $$ [HbB HTB]
  · isplitr; · iexact HC
    isplitl [HbB]; · iexact HbB
    isplitl [HTB]; · iexact HTB
    iexact HrrB
  iintro ⟨HccB, HTB⟩
  iapply Hk
  unfold LT PB
  isplitr [HO]
  · isplitl [HsA HcA HrA HlA HpA HccA HTA HDA]
    · isplitl [HsA HcA HrA HlA]
      · isplitl [HsA]; · iexact HsA
        isplitl [HcA]; · iexact HcA
        isplitl [HrA]; · iexact HrA
        iexact HlA
      · isplitl [HpA]; · iexact HpA
        isplitl [HccA]; · iexact HccA
        isplitl [HTA] <;> iassumption
    · isplitl [HsB HcB HrB HlB]
      · isplitl [HsB]; · iexact HsB
        isplitl [HcB]; · iexact HcB
        isplitl [HrB]; · iexact HrB
        iexact HlB
      · isplitl [HpB]; · iexact HpB
        isplitl [HccB]; · iexact HccB
        isplitl [HTB] <;> iassumption
  iexact HO

theorem tr_tail2 (s : Fin 2) :
    Tr c (tail2 c s) iprop(Ctx P K KS ∗ both (fun X => iprop(LT P c X s ∗ PB P c X s 3)) ∗ ow c 0)
      iprop(both (fun X => LE P c X s) ∗ ow c 0) := by
  intro Q
  have hs := s.isLt
  unfold tail2 both LT LE
  iintro ⟨#HC, ⟨⟨⟨HsA, HcA, HrA, HlA⟩, HBA⟩, ⟨⟨HsB, HcB, HrB, HlB⟩, HBB⟩⟩, HO⟩ Hk
  rw [WP.bind]
  iapply (tr_laneWaitCopy P K KS c (recvM false) false s 3 (by omega) _ (Above.zero _)) $$ [HBA HO]
  · isplitr; · iexact HC
    isplitl [HBA] <;> iassumption
  iintro ⟨HO, ⟨HpA, -⟩, HTA, HDA, HbA⟩
  rw [WP.bind]
  iapply (tr_laneWaitCopy P K KS c (recvM true) true s 3 (by omega) _ (Above.zero _)) $$ [HBB HO]
  · isplitr; · iexact HC
    isplitl [HBB] <;> iassumption
  iintro ⟨HO, ⟨HpB, -⟩, HTB, HDB, HbB⟩
  rw [WP.bind]
  iapply (tr_waitSend P K KS c false s 5 (by omega) 0 (Above.zero _)) $$ [HsA HcA HO]
  · isplitr; · iexact HC
    isplitl [HcA]; · iexact HcA
    isplitl [HO] <;> iassumption
  iintro ⟨HO, HsA, -, HaA⟩
  iapply (tr_waitSend P K KS c true s 5 (by omega) 0 (Above.zero _)) $$ [HsB HcB HO]
  · isplitr; · iexact HC
    isplitl [HcB]; · iexact HcB
    isplitl [HO] <;> iassumption
  iintro ⟨HO, HsB, -, HaB⟩
  ihave HaA := (own_join c (halfV (accM false) s) (D P false 5 s c)) $$ [HlA HaA]
  · isplitl [HlA] <;> iassumption
  ihave HaB := (own_join c (halfV (accM true) s) (D P true 5 s c)) $$ [HlB HaB]
  · isplitl [HlB] <;> iassumption
  iapply Hk
  isplitr [HO]
  · isplitl [HsA HrA HpA HaA HbA HDA]
    · isplitl [HsA]; · iexact HsA
      isplitl [HrA]; · iexact HrA
      isplitl [HpA]; · iexact HpA
      isplitl [HaA]; · iapply (anyH_intro c (accM false) s _); iexact HaA
      isplitl [HbA]; · iapply (anyH_intro c (recvM false) s _); iexact HbA
      iexact HDA
    · isplitl [HsB]; · iexact HsB
      isplitl [HrB]; · iexact HrB
      isplitl [HpB]; · iexact HpB
      isplitl [HaB]; · iapply (anyH_intro c (accM true) s _); iexact HaB
      isplitl [HbB]; · iapply (anyH_intro c (recvM true) s _); iexact HbB
      iexact HDB
  iexact HO

end Cert.RingIdeal

end
-- ==== Proof.Body.lean ====
/- The whole body on one device: the opening handshake, the six rounds, and the waits at the end. -/
module

public import proofs.«01_k».proof.Proof.Blocks

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (P : Ops F) (K : Dev nD × CK → ℕ) (KS : SK → ℕ) (c : Dev nD)

/-- For every lane. -/
abbrev lanes (Φ : Bool → Fin 2 → sProp 𝕄) : sProp 𝕄 := iprop(both (fun X => Φ X 0) ∗ both (fun X => Φ X 1))

/-! ## The opening -/

/-- A lane as it is launched, its receive half not yet given out. -/
def B0 (X : Bool) (s : Fin 2) : sProp 𝕄 :=
  iprop(atPos ER (kcell (c, .send X s)) 0 ∅ 0 ∗ atPos ER (kcell (c, .recv X s)) 0 ∅ 0 ∗ readerAt (ES (F := F)) (c, X, s) 0 ∗ Toks (F := F) c X s 0
    ∗ anyH c (accM X) s ∗ anyH c (recvM X) s ∗ atPos ER (kcell (c, .copy X s)) 0 ∅ 0 ∗ CT (F := F) c X s 0)

theorem open_lane (X : Bool) (s : Fin 2) :
    iprop(Ctx P K KS ∗ B0 (F := F) c X s) ⊢ (|={Set.univ}=> (L0 (F := F) c X s ∗ Fact (F := F) c X s 0) : sProp 𝕄) := by
  unfold B0 L0
  iintro ⟨#HC, Hs, Hr, Hrd, Ht, Ha, Hb, Hp, HT⟩
  ihave #Hre := (Ctx.reached P K KS (c, .recv X s)) $$ HC
  imod (release P K KS c X s 0) $$ [Hb Hrd] with ⟨Hrd, #HF⟩
  · isplitr; · iexact HC
    isplitl [Hb]; · iexact Hb
    isplitl [Hrd]; · iexact Hrd
    iexact Hre
  imodintro
  isplitr []
  · isplitl [Hs]; · iexact Hs
    isplitl [Hr]; · iexact Hr
    isplitl [Hrd]; · iexact Hrd
    isplitl [Ht]; · iexact Ht
    isplitl [Ha]; · iexact Ha
    isplitl [Hp] <;> iassumption
  iexact HF

/-- What a device owes at launch: every transfer, every credit, and a signal to both neighbours' barriers. -/
def O₀ : CellTallies nD τ sig ℕ := owe c 0 + tallyAt (kcell (src c true, .bar)) 0 1 + tallyAt (kcell (src c false, .bar)) 0 1

theorem above_hello : Above (owe c 0) 1 := by
  rw [owe_lt c 0 (by omega)]
  exact (above_owe c 1 1 (by omega) (by omega)).add (above_oweS c _ 0 1 (by omega) (by omega))

theorem tr_hello :
    Tr c (hello c)
      iprop(Ctx P K KS ∗ lanes (B0 (F := F) c) ∗ (atPos ER (kcell (c, .bar)) 0 ∅ 0 ∗ cred (tallyAt (kcell (c, .bar)) 0 2)
        ∗ both (fun X => dutyTok ER (kcell (src c X, .bar)) 0 (barDuty X))) ∗ ow c (O₀ c))
      iprop(lanes (L0 (F := F) c) ∗ both (fun X => Facts (F := F) c X 1) ∗ both (fun X => Facts (F := F) (dst c X) X 1)
        ∗ atPos ER (kcell (c, .bar)) 1 ∅ 0 ∗ ow c (owe c 0)) := by
  intro Q
  unfold hello
  iintro ⟨#HC, ⟨⟨H1, H2⟩, ⟨H3, H4⟩⟩, ⟨Hat, Hcr, ⟨Ht1, Ht2⟩⟩, HO⟩ Hk
  imod (open_lane P K KS c false 0) $$ [H1] with ⟨H1, #F1⟩
  · isplitr; · iexact HC
    iexact H1
  imod (open_lane P K KS c true 0) $$ [H2] with ⟨H2, #F2⟩
  · isplitr; · iexact HC
    iexact H2
  imod (open_lane P K KS c false 1) $$ [H3] with ⟨H3, #F3⟩
  · isplitr; · iexact HC
    iexact H3
  imod (open_lane P K KS c true 1) $$ [H4] with ⟨H4, #F4⟩
  · isplitr; · iexact HC
    iexact H4
  have hF : ∀ X, (iprop(Fact (F := F) c X 0 0 ∗ Fact (F := F) c X 1 0) : sProp 𝕄) ⊢ Facts (F := F) c X 1 := fun X => BI.Entails.refl _
  ihave #G1 := (hF false) $$ []
  · isplitr; · iexact F1
    iexact F3
  ihave #G2 := (hF true) $$ []
  · isplitr; · iexact F2
    iexact F4
  rw [WP.bind']
  iapply (tr_barSignal P K KS c false (O₀ c) (owe c 0 + tallyAt (kcell (src c true, .bar)) 0 1) rfl) $$ [HO Ht1]
  · isplitr; · iexact HC
    isplitr; · iexact G1
    isplitl [HO] <;> iassumption
  iintro HO
  rw [WP.bind]
  iapply (tr_barSignal P K KS c true _ (owe c 0) rfl) $$ [HO Ht2]
  · isplitr; · iexact HC
    isplitr; · iexact G2
    isplitl [HO] <;> iassumption
  iintro HO
  iapply (tr_barWait P K KS c (owe c 0) (above_hello c)) $$ [HO Hcr Hat]
  · isplitr; · iexact HC
    isplitl [Hcr]; · iexact Hcr
    isplitl [HO] <;> iassumption
  iintro ⟨HO, Hat, #E1, #E2⟩
  iapply Hk
  isplitl [H1 H2 H3 H4]
  · isplitl [H1 H2]
    · isplitl [H1] <;> iassumption
    · isplitl [H3] <;> iassumption
  isplitr
  · isplitr; · iexact G1
    iexact G2
  isplitr
  · isplitr; · iexact E1
    iexact E2
  isplitl [Hat] <;> iassumption

/-! ## The products computed ahead -/

theorem tr_pnx (h : ℕ) (s : Fin 2) (R R' : Bool → sProp 𝕄) :
    Tr c (pnx c h s) iprop(stg P c ∗ both (fun X => iprop(R X ∗ R' X ∗ anyH c (pnxM X) s)))
      iprop(stg P c ∗ both (fun X => iprop(R X ∗ R' X ∗ own c (halfV (pnxM X) s) fullShare (PV P X h s c)))) := by
  intro Q
  unfold pnx
  iintro ⟨Hst, ⟨RA, RA', HA⟩, ⟨RB, RB', HB⟩⟩ Hk
  rw [WP.bind]
  iapply (tr_mul P c (pnxM false) false h s) $$ [Hst HA]
  · isplitl [Hst] <;> iassumption
  iintro ⟨Hst, HA⟩
  iapply (tr_mul P c (pnxM true) true h s) $$ [Hst HB]
  · isplitl [Hst] <;> iassumption
  iintro ⟨Hst, HB⟩
  iapply Hk
  isplitl [Hst]; · iexact Hst
  isplitl [RA RA' HA]
  · isplitl [RA]; · iexact RA
    isplitl [RA'] <;> iassumption
  · isplitl [RB]; · iexact RB
    isplitl [RB'] <;> iassumption

/-! ## The body -/

/-- A half's two lanes between the blocks of rounds 0 to 2, with the buffers for the products: at any contents, or at
    those of round `h`. -/
abbrev SA (s : Fin 2) (g : ℕ) : sProp 𝕄 := both (fun X => iprop(LS (F := F) c X s g ∗ PA P c X s g ∗ anyH c (pnxM X) s))
abbrev SP (s : Fin 2) (g h : ℕ) : sProp 𝕄 :=
  both (fun X => iprop(LS (F := F) c X s g ∗ PA P c X s g ∗ own c (halfV (pnxM X) s) fullShare (PV P X h s c)))
/-- And between the later ones. -/
abbrev SB (s : Fin 2) (g i : ℕ) : sProp 𝕄 := both (fun X => iprop(LS (F := F) c X s g ∗ PB P c X s i))
abbrev SC (t : ℕ) : sProp 𝕄 := both (fun X => Cr (F := F) c X t)

theorem tr_pnxs (g h : ℕ) :
    Tr c (pnxs c h) iprop(stg P c ∗ SA P c 0 g ∗ SA P c 1 g) iprop(stg P c ∗ SP P c 0 g h ∗ SP P c 1 g h) := by
  intro Q
  unfold pnxs
  iintro ⟨Hst, H0, H1⟩ Hk
  rw [WP.bind]
  iapply (tr_pnx P c h 0 (fun X => LS (F := F) c X 0 g) (fun X => PA P c X 0 g)) $$ [Hst H0]
  · isplitl [Hst] <;> iassumption
  iintro ⟨Hst, H0⟩
  iapply (tr_pnx P c h 1 (fun X => LS (F := F) c X 1 g) (fun X => PA P c X 1 g)) $$ [Hst H1]
  · isplitl [Hst] <;> iassumption
  iintro ⟨Hst, H1⟩
  iapply Hk
  isplitl [Hst]; · iexact Hst
  isplitl [H0] <;> iassumption

/-- Both halves of a block of rounds 1 and 2, the next products before them. -/
theorem tr_add2 (g t : ℕ) (hg : g < 2) (ht : t = 2 * (g + 1)) :
    Tr c (do blkAdd c 0; blkAdd c 1)
      iprop(Ctx P K KS ∗ SP P c 0 g (g + 1) ∗ SP P c 1 g (g + 1) ∗ SC (F := F) c t ∗ ow c (owe c t))
      iprop(SA P c 0 (g + 1) ∗ SA P c 1 (g + 1) ∗ SC (F := F) c (t + 2) ∗ ow c (owe c (t + 2))) := by
  intro Q
  subst ht
  iintro ⟨#HC, H0, H1, HCr, HO⟩ Hk
  rw [WP.bind]
  iapply (tr_blkAdd P K KS c 0 g hg) $$ [H0 HCr HO]
  · isplitr; · iexact HC
    isplitl [H0]; · iexact H0
    isplitl [HCr]; · iexact HCr
    iexact HO
  iintro ⟨H0, HCr, HO⟩
  iapply (tr_blkAdd P K KS c 1 g hg) $$ [H1 HCr HO]
  · isplitr; · iexact HC
    isplitl [H1]; · iexact H1
    isplitl [HCr]; · iexact HCr
    iexact HO
  iintro ⟨H1, HCr, HO⟩
  iapply Hk
  isplitl [H0]; · iexact H0
  isplitl [H1]; · iexact H1
  isplitl [HCr]; · iexact HCr
  iexact HO

theorem tr_relu2 :
    Tr c (do blkRelu c 0; blkRelu c 1)
      iprop(Ctx P K KS ∗ SP P c 0 2 3 ∗ SP P c 1 2 3 ∗ SC (F := F) c 6 ∗ ow c (owe c 6))
      iprop(SB P c 0 3 0 ∗ SB P c 1 3 0 ∗ lanes (fun X s => anyH c (pnxM X) s) ∗ SC (F := F) c 8 ∗ ow c (owe c 8)) := by
  intro Q
  iintro ⟨#HC, H0, H1, HCr, HO⟩ Hk
  rw [WP.bind]
  iapply (tr_blkRelu P K KS c 0) $$ [H0 HCr HO]
  · isplitr; · iexact HC
    isplitl [H0]; · iexact H0
    isplitl [HCr]; · iexact HCr
    iexact HO
  iintro ⟨⟨⟨LA0, BA0, XA0⟩, ⟨LB0, BB0, XB0⟩⟩, HCr, HO⟩
  iapply (tr_blkRelu P K KS c 1) $$ [H1 HCr HO]
  · isplitr; · iexact HC
    isplitl [H1]; · iexact H1
    isplitl [HCr]; · iexact HCr
    iexact HO
  iintro ⟨⟨⟨LA1, BA1, XA1⟩, ⟨LB1, BB1, XB1⟩⟩, HCr, HO⟩
  iapply Hk
  isplitl [LA0 BA0 LB0 BB0]
  · isplitl [LA0 BA0]
    · isplitl [LA0] <;> iassumption
    · isplitl [LB0] <;> iassumption
  isplitl [LA1 BA1 LB1 BB1]
  · isplitl [LA1 BA1]
    · isplitl [LA1] <;> iassumption
    · isplitl [LB1] <;> iassumption
  isplitl [XA0 XB0 XA1 XB1]
  · isplitl [XA0 XB0]
    · isplitl [XA0] <;> iassumption
    · isplitl [XA1] <;> iassumption
  isplitl [HCr]; · iexact HCr
  iexact HO

theorem tr_fwd2 (i t : ℕ) (hi : i < 2) (ht : t = 2 * (3 + i + 1)) :
    Tr c (do blkFwd c i (i + 1) 0; blkFwd c i (i + 1) 1)
      iprop(Ctx P K KS ∗ SB P c 0 (3 + i) i ∗ SB P c 1 (3 + i) i ∗ SC (F := F) c t ∗ ow c (owe c t))
      iprop(SB P c 0 (3 + i + 1) (i + 1) ∗ SB P c 1 (3 + i + 1) (i + 1) ∗ SC (F := F) c (t + 2) ∗ ow c (owe c (t + 2))) := by
  intro Q
  subst ht
  iintro ⟨#HC, H0, H1, HCr, HO⟩ Hk
  rw [WP.bind]
  iapply (tr_blkFwd P K KS c 0 i hi) $$ [H0 HCr HO]
  · isplitr; · iexact HC
    isplitl [H0]; · iexact H0
    isplitl [HCr]; · iexact HCr
    iexact HO
  iintro ⟨H0, HCr, HO⟩
  iapply (tr_blkFwd P K KS c 1 i hi) $$ [H1 HCr HO]
  · isplitr; · iexact HC
    isplitl [H1]; · iexact H1
    isplitl [HCr]; · iexact HCr
    iexact HO
  iintro ⟨H1, HCr, HO⟩
  iapply Hk
  isplitl [H0]; · iexact H0
  isplitl [H1]; · iexact H1
  isplitl [HCr]; · iexact HCr
  iexact HO

/-- What a device's body starts from and what it ends with. -/
def Pre : sProp 𝕄 :=
  iprop(lanes (B0 (F := F) c) ∗ lanes (fun X s => anyH c (pnxM X) s) ∗ both (fun X => CrSt (F := F) c X 2)
    ∗ (atPos ER (kcell (c, .bar)) 0 ∅ 0 ∗ cred (tallyAt (kcell (c, .bar)) 0 2) ∗ both (fun X => dutyTok ER (kcell (src c X, .bar)) 0 (barDuty X)))
    ∗ stg P c ∗ ow c (O₀ c))
def Post : sProp 𝕄 :=
  iprop(lanes (LE P c) ∗ lanes (fun X s => anyH c (pnxM X) s) ∗ both (fun X => CrSt (F := F) c X 12)
    ∗ atPos ER (kcell (c, .bar)) 1 ∅ 0 ∗ stg P c ∗ ow c 0)

theorem tr_body : Tr c body iprop(Ctx P K KS ∗ Pre P c) (Post P c) := by
  intro Q
  unfold body Pre Post
  simp only [wp_deviceId, Prog.lift, Prog.bind_op, Prog.bind_ret]
  iintro ⟨#HC, HB, ⟨⟨X00, X10⟩, ⟨X01, X11⟩⟩, ⟨C0, C1⟩, Hbar, Hst, HO⟩ Hk
  rw [WP.bind']
  iapply (tr_hello P K KS c) $$ [HB Hbar HO]
  · isplitr; · iexact HC
    isplitl [HB]; · iexact HB
    isplitl [Hbar]; · iexact Hbar
    iexact HO
  iintro ⟨⟨HL0, HL1⟩, ⟨#G0, #G1⟩, #HE, Hbar, HO⟩
  rw [WP.bind]
  iapply (tr_blk0 P K KS c 0) $$ [HL0 Hst HO]
  · isplitr; · iexact HC
    isplitl [HL0]; · iexact HL0
    isplitl [Hst]; · iexact Hst
    isplitr; · iexact HE
    iexact HO
  iintro ⟨⟨⟨LA0, PA0⟩, ⟨LB0, PB0⟩⟩, Hst, HO⟩
  rw [WP.bind]
  iapply (tr_blk0 P K KS c 1) $$ [HL1 Hst HO]
  · isplitr; · iexact HC
    isplitl [HL1]; · iexact HL1
    isplitl [Hst]; · iexact Hst
    isplitr; · iexact HE
    iexact HO
  iintro ⟨⟨⟨LA1, PA1⟩, ⟨LB1, PB1⟩⟩, Hst, HO⟩
  rw [WP.bind]
  iapply (tr_pnxs P c 0 1) $$ [Hst LA0 PA0 LB0 PB0 LA1 PA1 LB1 PB1 X00 X10 X01 X11]
  · isplitl [Hst]; · iexact Hst
    isplitl [LA0 PA0 LB0 PB0 X00 X10]
    · isplitl [LA0 PA0 X00]
      · isplitl [LA0]; · iexact LA0
        isplitl [PA0] <;> iassumption
      · isplitl [LB0]; · iexact LB0
        isplitl [PB0] <;> iassumption
    · isplitl [LA1 PA1 X01]
      · isplitl [LA1]; · iexact LA1
        isplitl [PA1] <;> iassumption
      · isplitl [LB1]; · iexact LB1
        isplitl [PB1] <;> iassumption
  iintro ⟨Hst, H0, H1⟩
  have hCr : ∀ X, (iprop(CrSt (F := F) c X 2 ∗ Facts (F := F) c X 1) : sProp 𝕄) ⊢ Cr (F := F) c X 2 := fun X => BI.Entails.refl _
  ihave C0 := (hCr false) $$ [C0]
  · isplitl [C0]; · iexact C0
    iexact G0
  ihave C1 := (hCr true) $$ [C1]
  · isplitl [C1]; · iexact C1
    iexact G1
  rw [← bind_assoc, WP.bind]
  iapply (tr_add2 P K KS c 0 2 (by omega) rfl) $$ [H0 H1 C0 C1 HO]
  · isplitr; · iexact HC
    isplitl [H0]; · iexact H0
    isplitl [H1]; · iexact H1
    isplitl [C0 C1]
    · isplitl [C0] <;> iassumption
    iexact HO
  iintro ⟨H0, H1, HCr, HO⟩
  rw [WP.bind]
  iapply (tr_pnxs P c 1 2) $$ [Hst H0 H1]
  · isplitl [Hst]; · iexact Hst
    isplitl [H0]; · iexact H0
    iexact H1
  iintro ⟨Hst, H0, H1⟩
  rw [← bind_assoc, WP.bind]
  iapply (tr_add2 P K KS c 1 4 (by omega) rfl) $$ [H0 H1 HCr HO]
  · isplitr; · iexact HC
    isplitl [H0]; · iexact H0
    isplitl [H1]; · iexact H1
    isplitl [HCr]; · iexact HCr
    iexact HO
  iintro ⟨H0, H1, HCr, HO⟩
  rw [WP.bind]
  iapply (tr_pnxs P c 2 3) $$ [Hst H0 H1]
  · isplitl [Hst]; · iexact Hst
    isplitl [H0]; · iexact H0
    iexact H1
  iintro ⟨Hst, H0, H1⟩
  rw [← bind_assoc, WP.bind]
  iapply (tr_relu2 P K KS c) $$ [H0 H1 HCr HO]
  · isplitr; · iexact HC
    isplitl [H0]; · iexact H0
    isplitl [H1]; · iexact H1
    isplitl [HCr]; · iexact HCr
    iexact HO
  iintro ⟨H0, H1, HX, HCr, HO⟩
  rw [← bind_assoc, WP.bind]
  iapply (tr_fwd2 P K KS c 0 8 (by omega) rfl) $$ [H0 H1 HCr HO]
  · isplitr; · iexact HC
    isplitl [H0]; · iexact H0
    isplitl [H1]; · iexact H1
    isplitl [HCr]; · iexact HCr
    iexact HO
  iintro ⟨H0, H1, HCr, HO⟩
  rw [← bind_assoc, WP.bind]
  iapply (tr_fwd2 P K KS c 1 10 (by omega) rfl) $$ [H0 H1 HCr HO]
  · isplitr; · iexact HC
    isplitl [H0]; · iexact H0
    isplitl [H1]; · iexact H1
    isplitl [HCr]; · iexact HCr
    iexact HO
  iintro ⟨H0, H1, ⟨C0, C1⟩, HO⟩
  have hCr' : ∀ X, Cr (F := F) c X 12 ⊢ (CrSt (F := F) c X 12 : sProp 𝕄) := fun X => by unfold Cr; iintro ⟨H, -⟩; iexact H
  ihave C0 := (hCr' false) $$ C0
  ihave C1 := (hCr' true) $$ C1
  ihave HO := (Entails.of_eq (congrArg (ow (F := F) c) (owe_end c))) $$ HO
  rw [WP.bind]
  iapply (tr_tail1 P K KS c 0) $$ [H0 HO]
  · isplitr; · iexact HC
    isplitl [H0]; · iexact H0
    iexact HO
  iintro ⟨H0, HO⟩
  rw [WP.bind]
  iapply (tr_tail1 P K KS c 1) $$ [H1 HO]
  · isplitr; · iexact HC
    isplitl [H1]; · iexact H1
    iexact HO
  iintro ⟨H1, HO⟩
  rw [WP.bind]
  iapply (tr_tail2 P K KS c 0) $$ [H0 HO]
  · isplitr; · iexact HC
    isplitl [H0]; · iexact H0
    iexact HO
  iintro ⟨H0, HO⟩
  iapply (tr_tail2 P K KS c 1) $$ [H1 HO]
  · isplitr; · iexact HC
    isplitl [H1]; · iexact H1
    iexact HO
  iintro ⟨H1, HO⟩
  iapply Hk
  isplitl [H0 H1]
  · isplitl [H0] <;> iassumption
  isplitl [HX]; · iexact HX
  isplitl [C0 C1]
  · isplitl [C0] <;> iassumption
  isplitl [Hbar]; · iexact Hbar
  isplitl [Hst] <;> iassumption

end Cert.RingIdeal

end
-- ==== Proof.Memory.lean ====
/- How the device's buffers split into what the body works on: each scratch buffer into its two halves, the result into
   its sixteen pieces, and back. -/
module

public import proofs.«01_k».proof.Proof.Body

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (P : Ops F) (c : Dev nD)

/-! ## Families over the lanes -/

/-- A lane: a direction and a half. -/
abbrev LN : Type := Bool × Fin 2

theorem lanes_eq (Φ : Bool → Fin 2 → sProp 𝕄) : bigSep Finset.univ (fun l : LN => Φ l.1 l.2) = lanes Φ := by
  rw [bigSep_univ_eq_bigSepL [((false, 0) : LN), (true, 0), (false, 1), (true, 1)] (by decide) (by decide) (fun l : LN => Φ l.1 l.2)]
  refine BI.equiv_iff.mp ⟨?_, ?_⟩
  · show iprop(Φ false 0 ∗ Φ true 0 ∗ Φ false 1 ∗ Φ true 1) ⊢ lanes Φ
    iintro ⟨H1, H2, H3, H4⟩
    isplitl [H1 H2]
    · isplitl [H1] <;> iassumption
    · isplitl [H3] <;> iassumption
  · show lanes Φ ⊢ iprop(Φ false 0 ∗ Φ true 0 ∗ Φ false 1 ∗ Φ true 1)
    iintro ⟨⟨H1, H2⟩, ⟨H3, H4⟩⟩
    isplitl [H1]; · iexact H1
    isplitl [H2]; · iexact H2
    isplitl [H3] <;> iassumption

theorem both_eq (Φ : Bool → sProp 𝕄) : bigSep Finset.univ Φ = both Φ :=
  bigSep_univ_eq_bigSepL [false, true] (by decide) (by decide) Φ

theorem bigSep_range_fin (n : ℕ) (Φ : ℕ → sProp 𝕄) : bigSep (Finset.range n) Φ = bigSep Finset.univ fun i : Fin n => Φ i.val := by
  have h : Finset.range n = Finset.univ.map (Fin.valEmbedding (n := n)) := by
    ext i
    rw [Finset.mem_range, Finset.mem_map]
    exact ⟨fun h => ⟨⟨i, h⟩, Finset.mem_univ _, rfl⟩, fun ⟨j, _, e⟩ => e ▸ j.isLt⟩
  rw [h, bigSep_map]; rfl

/-! ## Halves -/

theorem half_disj (s t : Fin 2) (h : s ≠ t) : Disjoint (half s).set (half t).set :=
  Rect.unit_disjoint (s := S1024x1024) (0 : Fin 2)
    ((by decide : ∀ s t : Fin 2, s ≠ t → 512 * s.val + 512 ≤ 512 * t.val ∨ 512 * t.val + 512 ≤ 512 * s.val) s t h)

theorem half_cover : (Finset.univ : Finset (Fin 2)).biUnion (fun s => (half s).set) = Finset.univ := by
  refine Finset.eq_univ_iff_forall.mpr fun x => ?_
  have h0 : (x 0).val < 1024 := (x 0).isLt
  have h1 : (x 1).val < 1024 := (x 1).isLt
  refine Finset.mem_biUnion.mpr ⟨⟨(x 0).val / 512, by omega⟩, Finset.mem_univ _, Rect.mem_set_unit.mpr (Fin.forall_fin_two.mpr ⟨?_, ?_⟩)⟩
  · show 512 * ((x 0).val / 512) ≤ (x 0).val ∧ (x 0).val < 512 * ((x 0).val / 512) + 512
    omega
  · show 0 ≤ (x 1).val ∧ (x 1).val < 0 + 1024
    omega

theorem halves (m : Memref sig .tc .vmem S1024x1024 .f32) (X : S1024x1024.Idx → Elt F .f32) :
    (owns (c : Thread nD τ) m fullShare X : sProp 𝕄) ⊢ iprop(anyH c m 0 ∗ anyH c m 1) := by
  refine (owns_rects (c : Thread nD τ) m fullShare half (fun _ _ => rfl) half_disj half_cover X).trans ?_
  rw [bigSep_fin_two]
  exact BIClass.sep_mono (anyH_intro c m 0 _) (anyH_intro c m 1 _)

theorem unhalves (m : Memref sig .tc .vmem S1024x1024 .f32) :
    iprop(anyH c m 0 ∗ anyH c m 1) ⊢ (iprop(∃ X, owns (c : Thread nD τ) m fullShare X) : sProp 𝕄) := by
  have h : ∀ s : Fin 2, (anyH c m s : sProp 𝕄) ⊢ ownsSat (c : Thread nD τ) (m.slice (half s) (fun _ => rfl)) fullShare (fun _ => True) := fun s => by
    unfold anyH
    iintro ⟨%v, H⟩
    have h := ownsSat_intro (Val := Elt F) (Ix := ℕ) (Name := ℕ) (U := UU) (Lvl := ℕ) (c : Thread nD τ) (m.slice (half s) (fun _ => rfl)) fullShare (Φ := fun _ => True) (X := v) trivial
    iapply h; iexact H
  refine (BIClass.sep_mono (h 0) (h 1)).trans ?_
  have e := bigSep_fin_two (fun s : Fin 2 => (ownsSat (c : Thread nD τ) (m.slice (half s) (fun _ => rfl)) fullShare (fun _ => True) : sProp 𝕄))
  refine (Entails.of_eq e.symm).trans ?_
  refine (ownsSat_of_rects (c : Thread nD τ) m fullShare half (fun _ _ => rfl) half_disj half_cover (fun _ _ => True)).trans ?_
  exact ownsSat_any (c : Thread nD τ) m fullShare

/-- A scratch buffer whole at whatever contents. -/
def scr (b : Ref sig .tc) : sProp 𝕄 := iprop(∃ f : Buf (Elt F) ((c : Thread nD τ).loc b), ((c : Thread nD τ).loc b) ↦{fullShare} f)

theorem scr_own (b : Ref sig .tc) : (scr c b : sProp 𝕄) ⊢ iprop(∃ X, owns (c : Thread nD τ) (Memref.whole b) fullShare X) := by
  unfold scr
  iintro ⟨%f, H⟩
  iexists f
  rw [owns_whole]
  iexact H
theorem own_scr (b : Ref sig .tc) : (iprop(∃ X, owns (c : Thread nD τ) (Memref.whole b) fullShare X) : sProp 𝕄) ⊢ scr c b := by
  unfold scr
  iintro ⟨%f, H⟩
  iexists f
  ihave H := (Entails.of_eq (owns_whole (c : Thread nD τ) b fullShare f)) $$ H
  iexact H

/-- A buffer for each direction, in halves. -/
theorem scr_lanes (r : Bool → Ref sig .tc) (m : Bool → Memref sig .tc .vmem S1024x1024 .f32)
    (h : ∀ X, (scr c (r X) : sProp 𝕄) ⊢ iprop(∃ v, owns (c : Thread nD τ) (m X) fullShare v)) :
    iprop(scr c (r false) ∗ scr c (r true)) ⊢ (lanes (fun X s => anyH c (m X) s) : sProp 𝕄) := by
  have hh : ∀ X, (scr c (r X) : sProp 𝕄) ⊢ iprop(anyH c (m X) 0 ∗ anyH c (m X) 1) := fun X =>
    (h X).trans (by iintro ⟨%v, H⟩; iapply (halves c (m X) v); iexact H)
  iintro ⟨H1, H2⟩
  ihave H1 := (hh false) $$ H1
  ihave H2 := (hh true) $$ H2
  icases H1 with ⟨H1, H3⟩
  icases H2 with ⟨H2, H4⟩
  isplitl [H1 H2]
  · isplitl [H1] <;> iassumption
  · isplitl [H3] <;> iassumption
theorem lanes_scr (r : Bool → Ref sig .tc) (m : Bool → Memref sig .tc .vmem S1024x1024 .f32)
    (h : ∀ X, (iprop(∃ v, owns (c : Thread nD τ) (m X) fullShare v) : sProp 𝕄) ⊢ scr c (r X)) :
    (lanes (fun X s => anyH c (m X) s) : sProp 𝕄) ⊢ iprop(scr c (r false) ∗ scr c (r true)) := by
  have hh : ∀ X, iprop(anyH c (m X) 0 ∗ anyH c (m X) 1) ⊢ (scr c (r X) : sProp 𝕄) := fun X => (unhalves c (m X)).trans (h X)
  iintro ⟨⟨H1, H2⟩, ⟨H3, H4⟩⟩
  ihave H1 := (hh false) $$ [H1 H3]
  · isplitl [H1] <;> iassumption
  ihave H2 := (hh true) $$ [H2 H4]
  · isplitl [H2] <;> iassumption
  isplitl [H1] <;> iassumption

theorem scr_acc : ∀ X, (scr c (accR X) : sProp 𝕄) ⊢ iprop(∃ v, owns (c : Thread nD τ) (accM X) fullShare v) := fun | false => scr_own c cc0_scratch0 | true => scr_own c cc0_scratch1
theorem scr_recv : ∀ X, (scr c (recvR X) : sProp 𝕄) ⊢ iprop(∃ v, owns (c : Thread nD τ) (recvM X) fullShare v) := fun | false => scr_own c cc0_scratch2 | true => scr_own c cc0_scratch3
theorem scr_pnx : ∀ X, (scr c (pnxR X) : sProp 𝕄) ⊢ iprop(∃ v, owns (c : Thread nD τ) (pnxM X) fullShare v) := fun | false => scr_own c cc0_scratch4 | true => scr_own c cc0_scratch5
theorem acc_scr : ∀ X, (iprop(∃ v, owns (c : Thread nD τ) (accM X) fullShare v) : sProp 𝕄) ⊢ scr c (accR X) := fun | false => own_scr c cc0_scratch0 | true => own_scr c cc0_scratch1
theorem recv_scr : ∀ X, (iprop(∃ v, owns (c : Thread nD τ) (recvM X) fullShare v) : sProp 𝕄) ⊢ scr c (recvR X) := fun | false => own_scr c cc0_scratch2 | true => own_scr c cc0_scratch3
theorem pnx_scr : ∀ X, (iprop(∃ v, owns (c : Thread nD τ) (pnxM X) fullShare v) : sProp 𝕄) ⊢ scr c (pnxR X) := fun | false => own_scr c cc0_scratch4 | true => own_scr c cc0_scratch5

theorem scratch_eq : (Pipeline.scopedRest (Ix := ℕ) (Name := ℕ) (U := UU) (Lvl := ℕ) (Val := Elt F) cfg0.spec c : sProp 𝕄)
    = iprop(scr c cc0_scratch0 ∗ scr c cc0_scratch1 ∗ scr c cc0_scratch2 ∗ scr c cc0_scratch3 ∗ scr c cc0_scratch4 ∗ scr c cc0_scratch5) :=
  scopedRest0_eq c

theorem scratch_split : (Pipeline.scopedRest (Ix := ℕ) (Name := ℕ) (U := UU) (Lvl := ℕ) (Val := Elt F) cfg0.spec c : sProp 𝕄)
    ⊢ iprop(lanes (fun X s => anyH c (accM X) s) ∗ lanes (fun X s => anyH c (recvM X) s) ∗ lanes (fun X s => anyH c (pnxM X) s)) := by
  rw [scratch_eq]
  iintro ⟨H0, H1, H2, H3, H4, H5⟩
  isplitl [H0 H1]
  · iapply (scr_lanes c accR accM (scr_acc c)); isplitl [H0] <;> iassumption
  isplitl [H2 H3]
  · iapply (scr_lanes c recvR recvM (scr_recv c)); isplitl [H2] <;> iassumption
  · iapply (scr_lanes c pnxR pnxM (scr_pnx c)); isplitl [H4] <;> iassumption
theorem scratch_join :
    iprop(lanes (fun X s => anyH c (accM X) s) ∗ lanes (fun X s => anyH c (recvM X) s) ∗ lanes (fun X s => anyH c (pnxM X) s))
      ⊢ (Pipeline.scopedRest (Ix := ℕ) (Name := ℕ) (U := UU) (Lvl := ℕ) (Val := Elt F) cfg0.spec c : sProp 𝕄) := by
  rw [scratch_eq]
  iintro ⟨H0, H2, H4⟩
  ihave H0 := (lanes_scr c accR accM (acc_scr c)) $$ H0
  ihave H2 := (lanes_scr c recvR recvM (recv_scr c)) $$ H2
  ihave H4 := (lanes_scr c pnxR pnxM (pnx_scr c)) $$ H4
  icases H0 with ⟨H0, H1⟩
  icases H2 with ⟨H2, H3⟩
  icases H4 with ⟨H4, H5⟩
  isplitl [H0]; · iexact H0
  isplitl [H1]; · iexact H1
  isplitl [H2]; · iexact H2
  isplitl [H3]; · iexact H3
  isplitl [H4] <;> iassumption

/-! ## The pieces of the result -/

/-- A piece of the result: its lane and its number. -/
abbrev TP : Type := LN × Fin 4

abbrev orect (t : TP) : Rect S4096x2048 :=
  Rect.unit (s := S4096x2048) (ooff c t.1.1 t.2.val t.1.2) S512x1024.size (ooff_inb c t.1.1 t.2.val t.1.2)

/-- The chunk of rows the piece lies in. -/
def chunk (X : Bool) (i : Fin 4) : ℕ := if X then (c.val + i.val + 3) % 4 else (c.val + 5 - i.val) % 4

theorem ooff_row (X : Bool) (i : Fin 4) (s : Fin 2) : ooff c X i.val s 0 = 1024 * chunk c X i + 512 * s.val := congrFun (ooff_fin c X i s) 0
theorem ooff_col (X : Bool) (i : Fin 4) (s : Fin 2) : ooff c X i.val s 1 = if X then 1024 else 0 := congrFun (ooff_fin c X i s) 1
theorem chunk_inj (X : Bool) (i j : Fin 4) (h : chunk c X i = chunk c X j) : i = j := by revert c X i j; decide
theorem chunk_surj (X : Bool) (q : Fin 4) : ∃ i, chunk c X i = q.val := by revert c X q; decide

theorem orect_disj (t t' : TP) (h : t ≠ t') : Disjoint (orect c t).set (orect c t').set := by
  obtain ⟨⟨X, s⟩, i⟩ := t
  obtain ⟨⟨X', s'⟩, i'⟩ := t'
  by_cases hX : X = X'
  · subst hX
    refine Rect.unit_disjoint (s := S4096x2048) (0 : Fin 2) ?_
    show ooff c X i.val s 0 + 512 ≤ ooff c X i'.val s' 0 ∨ ooff c X i'.val s' 0 + 512 ≤ ooff c X i.val s 0
    rw [ooff_row, ooff_row]
    have hs := s.isLt
    have hs' := s'.isLt
    by_cases hi : i = i'
    · have hne : s ≠ s' := fun e => h (by rw [hi, e])
      have : s.val ≠ s'.val := fun e => hne (Fin.ext e)
      rw [hi]; omega
    · have : chunk c X i ≠ chunk c X i' := fun e => hi (chunk_inj c X i i' e)
      omega
  · refine Rect.unit_disjoint (s := S4096x2048) (1 : Fin 2) ?_
    show ooff c X i.val s 1 + 1024 ≤ ooff c X' i'.val s' 1 ∨ ooff c X' i'.val s' 1 + 1024 ≤ ooff c X i.val s 1
    rw [ooff_col, ooff_col]
    cases X <;> cases X' <;> first | exact absurd rfl hX | decide

/-- Where an element lies. -/
theorem mem_orect (X : Bool) (s : Fin 2) (i : Fin 4) (x : S4096x2048.Idx) :
    x ∈ (orect c ((X, s), i)).set ↔ (1024 * chunk c X i + 512 * s.val ≤ (x 0).val ∧ (x 0).val < 1024 * chunk c X i + 512 * s.val + 512)
      ∧ ((if X then 1024 else 0) ≤ (x 1).val ∧ (x 1).val < (if X then 1024 else 0) + 1024) := by
  refine Rect.mem_set_unit.trans (Fin.forall_fin_two.trans ?_)
  show (ooff c X i.val s 0 ≤ (x 0).val ∧ (x 0).val < ooff c X i.val s 0 + 512) ∧ (ooff c X i.val s 1 ≤ (x 1).val ∧ (x 1).val < ooff c X i.val s 1 + 1024) ↔ _
  rw [ooff_row, ooff_col]

theorem orect_cover : (Finset.univ : Finset TP).biUnion (fun t => (orect c t).set) = Finset.univ := by
  refine Finset.eq_univ_iff_forall.mpr fun x => ?_
  have h0 : (x 0).val < 4096 := (x 0).isLt
  have h1 : (x 1).val < 2048 := (x 1).isLt
  obtain ⟨i, hi⟩ := chunk_surj c (decide (1024 ≤ (x 1).val)) ⟨(x 0).val / 1024, by omega⟩
  refine Finset.mem_biUnion.mpr ⟨((decide (1024 ≤ (x 1).val), ⟨(x 0).val / 512 % 2, by omega⟩), i), Finset.mem_univ _, (mem_orect c _ _ _ x).mpr ?_⟩
  rw [hi]
  refine ⟨?_, ?_⟩
  · show 1024 * ((x 0).val / 1024) + 512 * ((x 0).val / 512 % 2) ≤ (x 0).val ∧ (x 0).val < 1024 * ((x 0).val / 1024) + 512 * ((x 0).val / 512 % 2) + 512
    omega
  · by_cases hx : 1024 ≤ (x 1).val
    · rw [decide_eq_true hx, if_pos rfl]; omega
    · rw [decide_eq_false hx, if_neg (by decide)]; omega

/-- What the run leaves in the result: in each piece its value. -/
def Final (f : (main_v1 : Ref sig .tc).ty.Contents (Elt F)) : Prop :=
  ∀ t : TP, (fun j => f ((orect c t).emb j)) = OV P t.1.1 t.2.val t.1.2 c

theorem out_split (f : (main_v1 : Ref sig .tc).ty.Contents (Elt F)) :
    ((((c : Thread nD τ).loc main_v1) ↦{fullShare} f) : sProp 𝕄)
      ⊢ lanes fun X s => bigSep (Finset.Ico 0 4) fun i => iprop(∃ v, own c (outV c X i s) fullShare v) := by
  rw [← lanes_eq, ← owns_whole]
  refine (owns_rects (c : Thread nD τ) oM fullShare (orect c) (fun _ _ => rfl) (orect_disj c) (orect_cover c) f).trans ?_
  rw [bigSep_univ_prod]
  refine bigSep_mono fun l _ => ?_
  rw [← Finset.range_eq_Ico, bigSep_range_fin]
  refine bigSep_mono fun i _ => ?_
  show own c (outV c l.1 i.val l.2) fullShare (fun j => f ((orect c (l, i)).emb j)) ⊢ (iprop(∃ v, own c (outV c l.1 i.val l.2) fullShare v) : sProp 𝕄)
  iintro H
  iexists (fun j => f ((orect c (l, i)).emb j))
  iexact H

theorem out_join : (lanes (fun X s => Done P c X s 4) : sProp 𝕄)
    ⊢ iprop(∃ f : Buf (Elt F) ((c : Thread nD τ).loc main_v1), ⌜Final P c f⌝ ∗ (((c : Thread nD τ).loc main_v1) ↦{fullShare} f)) := by
  rw [← lanes_eq]
  have h : ∀ (l : LN) (i : Fin 4), own c (outV c l.1 i.val l.2) fullShare (OV P l.1 i.val l.2 c)
      ⊢ (ownsSat (c : Thread nD τ) (oM.slice (orect c (l, i)) (fun _ => rfl)) fullShare (fun v => v = OV P l.1 i.val l.2 c) : sProp 𝕄) := fun l i =>
    by
      have h := ownsSat_intro (Val := Elt F) (Ix := ℕ) (Name := ℕ) (U := UU) (Lvl := ℕ) (c : Thread nD τ) (oM.slice (orect c (l, i)) (fun _ => rfl)) fullShare
        (Φ := fun v : S512x1024.Idx → Elt F .f32 => v = OV P l.1 i.val l.2 c) (X := OV P l.1 i.val l.2 c) rfl
      exact h
  have h3 : ∀ l : LN, Done P c l.1 l.2 4 ⊢ (bigSep Finset.univ fun i : Fin 4 =>
      ownsSat (c : Thread nD τ) (oM.slice (orect c (l, i)) (fun _ => rfl)) fullShare (fun v => v = OV P l.1 i.val l.2 c) : sProp 𝕄) := fun l => by
    unfold Done
    refine (Entails.of_eq (bigSep_range_fin 4 (fun i => own c (outV c l.1 i l.2) fullShare (OV P l.1 i l.2 c)))).trans ?_
    exact bigSep_mono (s := (Finset.univ : Finset (Fin 4))) fun i _ => h l i
  have h2 : bigSep Finset.univ (fun l : LN => Done P c l.1 l.2 4)
      ⊢ (bigSep Finset.univ fun t : TP => ownsSat (c : Thread nD τ) (oM.slice (orect c t) (fun _ => rfl)) fullShare (fun v => v = OV P t.1.1 t.2.val t.1.2 c) : sProp 𝕄) := by
    refine (bigSep_mono (s := (Finset.univ : Finset LN)) fun l _ => h3 l).trans ?_
    have e := bigSep_univ_prod (fun t : TP => (ownsSat (c : Thread nD τ) (oM.slice (orect c t) (fun _ => rfl)) fullShare (fun v => v = OV P t.1.1 t.2.val t.1.2 c) : sProp 𝕄))
    exact Entails.of_eq e.symm
  refine h2.trans ?_
  refine (ownsSat_of_rects (c : Thread nD τ) oM fullShare (orect c) (fun _ _ => rfl) (orect_disj c) (orect_cover c)
    (fun (t : TP) (v : S512x1024.Idx → Elt F .f32) => v = OV P t.1.1 t.2.val t.1.2 c)).trans ?_
  unfold ownsSat
  iintro ⟨%f, %hf, H⟩
  iexists f
  isplitr
  · ipureintro; exact hf
  simp only [Memref.view_whole, View.set_whole]
  iexact H

end Cert.RingIdeal

end
-- ==== Proof.Deal.lean ====
/- How the launch's ghost state is dealt out.

   Every cell's tokens are made once and handed to the devices that pay its duties; a slot's write tokens go to the device
   that writes into it; and what the devices owe at launch, summed over them, is what each one's own waits will use. -/
module

public import proofs.«01_k».proof.Proof.Memory

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (P : Ops F) (c : Dev nD)

/-! ## Families over the cells and lanes of a device -/

theorem both_mono {Φ Ψ : Bool → sProp 𝕄} (h : ∀ X, Φ X ⊢ Ψ X) : both Φ ⊢ both Ψ := BIClass.sep_mono (h false) (h true)
theorem lanes_mono {Φ Ψ : Bool → Fin 2 → sProp 𝕄} (h : ∀ X s, Φ X s ⊢ Ψ X s) : lanes Φ ⊢ lanes Ψ :=
  BIClass.sep_mono (both_mono fun X => h X 0) (both_mono fun X => h X 1)
theorem lanes_sep (Φ Ψ : Bool → Fin 2 → sProp 𝕄) : iprop(lanes Φ ∗ lanes Ψ) ⊢ lanes (fun X s => iprop(Φ X s ∗ Ψ X s)) := by
  iintro ⟨⟨⟨H1, H2⟩, ⟨H3, H4⟩⟩, ⟨⟨G1, G2⟩, ⟨G3, G4⟩⟩⟩
  isplitl [H1 H2 G1 G2]
  · isplitl [H1 G1]
    · isplitl [H1] <;> iassumption
    · isplitl [H2] <;> iassumption
  · isplitl [H3 G3]
    · isplitl [H3] <;> iassumption
    · isplitl [H4] <;> iassumption
theorem both_halves (Φ : Bool → Fin 2 → sProp 𝕄) : both (fun X => iprop(Φ X 0 ∗ Φ X 1)) ⊢ lanes Φ := by
  iintro ⟨⟨H1, H2⟩, ⟨H3, H4⟩⟩
  isplitl [H1 H3]
  · isplitl [H1] <;> iassumption
  · isplitl [H2] <;> iassumption

/-- The fifteen cells in their order. -/
theorem ck_list (Φ : CK → sProp 𝕄) : bigSep Finset.univ Φ
    = iprop(Φ (.send false 0) ∗ Φ (.send false 1) ∗ Φ (.send true 0) ∗ Φ (.send true 1) ∗ Φ (.recv false 0) ∗ Φ (.recv false 1) ∗ Φ (.recv true 0) ∗ Φ (.recv true 1)
      ∗ Φ (.copy false 0) ∗ Φ (.copy false 1) ∗ Φ (.copy true 0) ∗ Φ (.copy true 1) ∗ Φ (.credit false) ∗ Φ (.credit true) ∗ Φ .bar) :=
  bigSep_univ_eq_bigSepL [(CK.send false 0 : CK), .send false 1, .send true 0, .send true 1, .recv false 0, .recv false 1, .recv true 0, .recv true 1,
    .copy false 0, .copy false 1, .copy true 0, .copy true 1, .credit false, .credit true, .bar] (by decide) (by decide) Φ

theorem ck_split (Φ : CK → sProp 𝕄) : bigSep Finset.univ Φ
    ⊢ iprop(lanes (fun X s => Φ (.send X s)) ∗ lanes (fun X s => Φ (.recv X s)) ∗ lanes (fun X s => Φ (.copy X s)) ∗ both (fun X => Φ (.credit X)) ∗ Φ .bar) := by
  rw [ck_list]
  iintro ⟨S1, S2, S3, S4, R1, R2, R3, R4, C1, C2, C3, C4, D1, D2, B⟩
  isplitl [S1 S2 S3 S4]
  · iapply (both_halves fun X s => Φ (.send X s))
    isplitl [S1 S2]
    · isplitl [S1] <;> iassumption
    · isplitl [S3] <;> iassumption
  isplitl [R1 R2 R3 R4]
  · iapply (both_halves fun X s => Φ (.recv X s))
    isplitl [R1 R2]
    · isplitl [R1] <;> iassumption
    · isplitl [R3] <;> iassumption
  isplitl [C1 C2 C3 C4]
  · iapply (both_halves fun X s => Φ (.copy X s))
    isplitl [C1 C2]
    · isplitl [C1] <;> iassumption
    · isplitl [C3] <;> iassumption
  isplitl [D1 D2]
  · isplitl [D1] <;> iassumption
  iexact B

theorem range_snoc (n : ℕ) (Φ : ℕ → sProp 𝕄) : bigSep (Finset.range (n + 1)) Φ = iprop(Φ n ∗ bigSep (Finset.range n) Φ) := by
  rw [Finset.range_add_one, bigSep_insert Finset.notMem_range_self]; rfl

/-- Numbers below `2 n` by their halves: `2 h` and `2 h + 1`. -/
theorem evens (Φ : ℕ → sProp 𝕄) : ∀ n, bigSep (Finset.range (2 * n)) Φ
    ⊢ iprop(bigSep (Finset.range n) (fun h => Φ (2 * h + (0 : Fin 2).val)) ∗ bigSep (Finset.range n) (fun h => Φ (2 * h + (1 : Fin 2).val)))
  | 0 => by
    rw [Nat.mul_zero, Finset.range_zero, bigSep_empty, bigSep_empty, bigSep_empty]
    iintro -
    isplitl <;> iempintro
  | n + 1 => by
    rw [show 2 * (n + 1) = 2 * n + 1 + 1 by omega, range_snoc, range_snoc, range_snoc, range_snoc]
    iintro ⟨H1, H0, H⟩
    ihave H := (evens Φ n) $$ H
    icases H with ⟨HA, HB⟩
    isplitl [H0 HA]
    · isplitl [H0] <;> iassumption
    · isplitl [H1] <;> iassumption

/-! ## Who pays a duty -/

def dstE (X : Bool) : Dev nD ≃ Dev nD := ⟨fun c => dst c X, fun c => src c X, fun c => src_dst c X, fun c => dst_src c X⟩
def srcE (X : Bool) : Dev nD ≃ Dev nD := ⟨fun c => src c X, fun c => dst c X, fun c => dst_src c X, fun c => src_dst c X⟩

/-- The device whose cell `k` device `c` pays duty `d` of. -/
def payee : CK → ℕ → (Dev nD ≃ Dev nD)
  | .bar, d => if d = 0 then srcE false else srcE true
  | .credit X, _ => srcE X
  | .recv X _, _ => dstE X
  | .send _ _, _ => Equiv.refl _
  | .copy _ _, _ => Equiv.refl _

/-- The tokens of the duties of cells `k` that device `c` pays. -/
def tokCK (k : CK) : sProp 𝕄 :=
  bigSep Finset.univ fun q : Fin 6 × Fin 12 => dutyTok (ER (F := F)) (kcell (payee k q.2.val c, k)) q.1.val q.2.val

/-- A duty number of one, round by round; a round of one, duty by duty. -/
theorem tok_rounds (k : CK) : (tokCK c k : sProp 𝕄) ⊢ bigSep (Finset.range 6) fun h => dutyTok (ER (F := F)) (kcell (payee k 0 c, k)) h 0 := by
  unfold tokCK
  rw [bigSep_univ_prod, bigSep_range_fin]
  exact bigSep_mono fun r _ => bigSep_elim (Φ := fun d : Fin 12 => dutyTok (ER (F := F)) (kcell (payee k d.val c, k)) r.val d.val) (i := 0) (Finset.mem_univ _)
theorem tok_duties (k : CK) : (tokCK c k : sProp 𝕄) ⊢ bigSep (Finset.range 12) fun d => dutyTok (ER (F := F)) (kcell (payee k d c, k)) 0 d := by
  unfold tokCK
  rw [bigSep_univ_prod, bigSep_range_fin]
  exact bigSep_elim (Φ := fun r : Fin 6 => bigSep Finset.univ fun d : Fin 12 => dutyTok (ER (F := F)) (kcell (payee k d.val c, k)) r.val d.val) (i := 0) (Finset.mem_univ _)

/-! ## What a device holds at launch -/

def readers : sProp 𝕄 := bigSep Finset.univ fun l : LN => readerAt (ES (F := F)) (c, l.1, l.2) 0
def writers : sProp 𝕄 := bigSep Finset.univ fun l : LN => bigSep (Finset.range 6) fun h => writeTok (ES (F := F)) (dst c l.1, l.1, l.2) (h + 1)
def ats : sProp 𝕄 := bigSep Finset.univ fun k : CK => atPos (ER (F := F)) (kcell (c, k)) 0 ∅ 0
def Lin : sProp 𝕄 := iprop(ats c ∗ bigSep Finset.univ (tokCK (F := F) c) ∗ readers c ∗ writers c)

/-- The credits of a lane, and of the barrier. -/
def credL (X : Bool) (s : Fin 2) : sProp 𝕄 := bigSep (Finset.range 6) fun h =>
  iprop(cred (tallyAt (kcell (c, .recv X s)) (2 * h + s.val) N) ∗ if 2 ≤ 2 * h + s.val then cred (tallyAt (kcell (c, .credit X)) (2 * h + s.val) 1) else iprop(emp))

def mineS (t : ℕ) : CellTallies nD τ sig ℕ := tallyAt (kcell (c, .recv true (halfOf t))) t N + tallyAt (kcell (c, .recv false (halfOf t))) t N
def mineC (t : ℕ) : CellTallies nD τ sig ℕ := tallyAt (kcell (c, .credit true)) t 1 + tallyAt (kcell (c, .credit false)) t 1
/-- What the others owe device `c`. -/
def mine : CellTallies nD τ sig ℕ := (∑ t ∈ Finset.Ico 0 12, (mineS c t + if 2 ≤ t then mineC c t else 0)) + tallyAt (kcell (c, .bar)) 0 1 + tallyAt (kcell (c, .bar)) 0 1

theorem sum_at (e : Dev nD ≃ Dev nD) (k : CK) (t a : ℕ) :
    (∑ d : Dev nD, (tallyAt (kcell (e d, k)) t a : CellTallies nD τ sig ℕ)) = ∑ d : Dev nD, tallyAt (kcell (d, k)) t a :=
  Equiv.sum_comp e fun d => (tallyAt (kcell (d, k)) t a : CellTallies nD τ sig ℕ)

theorem sum_owed : (∑ d : Dev nD, O₀ d) = ∑ d : Dev nD, mine d := by
  unfold O₀ owe mine
  rw [Finset.sum_add_distrib, Finset.sum_add_distrib, Finset.sum_add_distrib, Finset.sum_add_distrib]
  have hT := sum_at (srcE true) .bar 0 1
  have hF := sum_at (srcE false) .bar 0 1
  refine congrArg₂ (· + ·) (congrArg₂ (· + ·) ?_ hT) hF
  rw [Finset.sum_comm, Finset.sum_comm (s := Finset.univ)]
  refine Finset.sum_congr rfl fun t _ => ?_
  rw [Finset.sum_add_distrib, Finset.sum_add_distrib]
  refine congrArg₂ (· + ·) ?_ ?_
  · unfold oweS mineS
    rw [Finset.sum_add_distrib, Finset.sum_add_distrib]
    exact congrArg₂ (· + ·) (sum_at (dstE true) _ t N) (sum_at (dstE false) _ t N)
  · by_cases h : 2 ≤ t
    · simp only [if_pos h]
      unfold oweC mineC
      rw [Finset.sum_add_distrib, Finset.sum_add_distrib]
      exact congrArg₂ (· + ·) (sum_at (srcE true) _ t 1) (sum_at (srcE false) _ t 1)
    · simp only [if_neg h]

/-- Only at device `c`'s cells. -/
def Mine (O : CellTallies nD τ sig ℕ) : Prop := ∀ g, O g ≠ 0 → g.1 = (c : Thread nD τ)
theorem Mine.zero : Mine c 0 := fun g h => absurd rfl h
theorem Mine.add {O O' : CellTallies nD τ sig ℕ} (h : Mine c O) (h' : Mine c O') : Mine c (O + O') := fun g hg => by
  by_cases h0 : O g = 0
  · refine h' g fun h1 => hg ?_
    rw [Pi.add_apply, h0, h1, add_zero]
  · exact h g h0
theorem Mine.at (k : CK) (t a : ℕ) : Mine c (tallyAt (kcell (c, k)) t a) := fun g hg => by
  by_contra hne
  exact hg (tallyAt_ne_cell (fun e => hne (by rw [e])) t a)
theorem Mine.mine : Mine c (mine c) := by
  unfold RingIdeal.mine
  refine ((Finset.sum_induction _ (Mine c) (fun _ _ => Mine.add c) (Mine.zero c) fun t _ => ?_).add c (Mine.at c _ _ _)).add c (Mine.at c _ _ _)
  refine ((Mine.at c _ _ _).add c (Mine.at c _ _ _)).add c ?_
  split
  · exact (Mine.at c _ _ _).add c (Mine.at c _ _ _)
  · exact Mine.zero c

theorem halfOf_two (h : ℕ) (s : Fin 2) : halfOf (2 * h + s.val) = s := Fin.ext (by show (2 * h + s.val) % 2 = s.val; have := s.isLt; omega)

/-- One transfer number's credits. -/
def credT (t : ℕ) (s : Fin 2) (X : Bool) : sProp 𝕄 :=
  iprop(cred (tallyAt (kcell (c, .recv X s)) t N) ∗ if 2 ≤ t then cred (tallyAt (kcell (c, .credit X)) t 1) else iprop(emp))

theorem cred_mineT (t : ℕ) : (cred (mineS c t + if 2 ≤ t then mineC c t else 0) : sProp 𝕄) ⊢ both (credT c t (halfOf t)) := by
  unfold credT mineS mineC
  refine (cred_add _ _).1.trans ?_
  by_cases h : 2 ≤ t
  · simp only [if_pos h]
    refine (BIClass.sep_mono (cred_add _ _).1 (cred_add _ _).1).trans ?_
    iintro ⟨⟨A, B⟩, ⟨C, D⟩⟩
    isplitl [B D]
    · isplitl [B] <;> iassumption
    · isplitl [A] <;> iassumption
  · simp only [if_neg h]
    refine (BIClass.sep_mono (cred_add _ _).1 (BI.Entails.refl _)).trans ?_
    iintro ⟨⟨A, B⟩, -⟩
    isplitl [B]
    · isplitl [B]; · iexact B
      iempintro
    · isplitl [A]; · iexact A
      iempintro

theorem cred_mine : (cred (mine c) : sProp 𝕄) ⊢ iprop(lanes (credL (F := F) c) ∗ cred (tallyAt (kcell (c, .bar)) 0 2)) := by
  unfold mine
  have hb : (tallyAt (kcell (c, .bar)) 0 1 + tallyAt (kcell (c, .bar)) 0 1 : CellTallies nD τ sig ℕ) = tallyAt (kcell (c, .bar)) 0 2 := tallyAt_add _ _ _ _
  rw [add_assoc, hb]
  refine (cred_add _ _).1.trans (BIClass.sep_mono ?_ (BI.Entails.refl _))
  refine (Entails.of_eq (Pipeline.cred_finsetSum (Finset.Ico 0 12) fun t => mineS c t + if 2 ≤ t then mineC c t else 0)).trans ?_
  refine (bigSep_mono fun t _ => cred_mineT c t).trans ?_
  rw [← Finset.range_eq_Ico]
  refine (evens (fun t => both (credT (F := F) c t (halfOf t))) 6).trans ?_
  have h (s : Fin 2) : bigSep (Finset.range 6) (fun h => both (credT (F := F) c (2 * h + s.val) (halfOf (2 * h + s.val)))) ⊢ (both (fun X => credL c X s) : sProp 𝕄) := by
    refine (bigSep_mono (Ψ := fun h => both (fun X => credT (F := F) c (2 * h + s.val) s X)) fun h _ => Entails.of_eq (congrArg (fun u => both (credT (F := F) c (2 * h + s.val) u)) (halfOf_two h s))).trans ?_
    exact Entails.of_eq (bigSep_sep' (Finset.range 6) (fun h => credT (F := F) c (2 * h + s.val) s false) (fun h => credT (F := F) c (2 * h + s.val) s true))
  exact BIClass.sep_mono (h 0) (h 1)

theorem creds : (Pipeline.launchCred O₀ c : sProp 𝕄) ⊢ iprop(lanes (credL (F := F) c) ∗ cred (tallyAt (kcell (c, .bar)) 0 2)) :=
  (Entails.of_eq (Pipeline.launchCred_of_sum O₀ mine sum_owed (fun d => Mine.mine d) c)).trans (cred_mine c)

end Cert.RingIdeal

end
-- ==== Proof.Fund.lean ====
/- The launch's ghost state: what is minted, and what every device is handed of it. -/
module

public import proofs.«01_k».proof.Proof.Deal

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (P : Ops F) (c : Dev nD)

/-! ## The cells, and the tokens over all of them -/

def allCells : Finset (GSem nD τ sig) := Finset.univ.map ⟨kcell, kcell_inj⟩

def tokOf (x : Dev nD × (CK × (Fin 6 × Fin 12))) : GSem nD τ sig × ℕ × ℕ := (kcell (x.1, x.2.1), x.2.2.1.val, x.2.2.2.val)
theorem tokOf_inj : Function.Injective tokOf := by
  rintro ⟨c, k, r, d⟩ ⟨c', k', r', d'⟩ h
  have h1 := congrArg (fun x : GSem nD τ sig × ℕ × ℕ => x.1) h
  have h2 := congrArg (fun x : GSem nD τ sig × ℕ × ℕ => x.2.1) h
  have h3 := congrArg (fun x : GSem nD τ sig × ℕ × ℕ => x.2.2) h
  have h1' := kcell_inj h1
  have h2' : r = r' := Fin.ext h2
  have h3' : d = d' := Fin.ext h3
  cases h1'; cases h2'; cases h3'; rfl
def allToks : Finset (GSem nD τ sig × ℕ × ℕ) := Finset.univ.map ⟨tokOf, tokOf_inj⟩

def u₀ : UU :=
  (initOf (Pipeline.cells cfgs cellOf_inj) (Pipeline.launchToks cfgs cellOf_inj), (initOf allCells allToks, Release.initSlots (Finset.univ : Finset SK) 6))

theorem cells_deal (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

/-- A family over the devices and cells, dealt so that the payer of each duty has it. -/
theorem toks_deal : bigSep allToks (fun x => (dutyTok (ER (F := F)) x.1 x.2.1 x.2.2 : sProp 𝕄))
    = bigSep Finset.univ fun c : Dev nD => bigSep Finset.univ (tokCK (F := F) c) := by
  unfold allToks
  rw [bigSep_map, bigSep_univ_prod, bigSep_univ_comm]
  rw [bigSep_univ_prod]
  rw [bigSep_univ_comm (Φ := fun c k => tokCK (F := F) c k)]
  refine bigSep_congr fun k _ => ?_
  unfold tokCK
  rw [bigSep_univ_comm (Φ := fun (c : Dev nD) (q : Fin 6 × Fin 12) => (dutyTok (ER (F := F)) (kcell (payee k q.2.val c, k)) q.1.val q.2.val : sProp 𝕄))]
  refine bigSep_congr fun q _ => ?_
  exact bigSep_univ_equiv (payee k q.2.val) (fun c : Dev nD => (dutyTok (ER (F := F)) (kcell (c, k)) q.1.val q.2.val : sProp 𝕄))

/-! ## What a device is handed -/

def slotsInv (KS : SK → ℕ) : sProp 𝕄 := bigSep Finset.univ fun k : SK => slotInv (ES (F := F)) (KS k) k (slotS (F := F) k)
instance slotsInv_persistent (KS : SK → ℕ) : BI.Persistent (slotsInv (F := F) KS) := by unfold slotsInv; infer_instance

def states : sProp 𝕄 := bigSep Finset.univ fun k : CK => roundState (ER (F := F)) (Rd P) (kcell (c, k)) 0
def reacheds : sProp 𝕄 := bigSep Finset.univ fun k : CK => reached (ER (F := F)) (kcell (c, k)) 0

def G : sProp 𝕄 := iprop(states P c ∗ reacheds c ∗ Lin c ∗ ∃ KS, slotsInv (F := F) KS)

/-- A family over the slots and the numbers below `n`, slot by slot. -/
theorem trips (n : ℕ) (Φ : SK × ℕ → sProp 𝕄) :
    bigSep ((Finset.univ : Finset SK) ×ˢ Finset.range n) Φ = bigSep Finset.univ fun k : SK => bigSep (Finset.range n) fun h => Φ (k, h) := by
  have hinj : Function.Injective fun x : SK × Fin n => (x.1, x.2.val) := fun a b h =>
    Prod.ext (congrArg (fun y : SK × ℕ => y.1) h) (Fin.ext (congrArg (fun y : SK × ℕ => y.2) h))
  have hs : (Finset.univ : Finset SK) ×ˢ Finset.range n = (Finset.univ : Finset (SK × Fin n)).map ⟨_, hinj⟩ := by
    ext ⟨k, h⟩
    simp only [Finset.mem_product, Finset.mem_univ, true_and, Finset.mem_range, Finset.mem_map, Function.Embedding.coeFn_mk]
    exact ⟨fun hh => ⟨(k, ⟨h, hh⟩), rfl⟩, fun ⟨x, hx⟩ => lt_of_eq_of_lt (congrArg (fun y : SK × ℕ => y.2) hx).symm x.2.isLt⟩
  rw [hs, bigSep_map, bigSep_univ_prod]
  exact bigSep_congr fun k _ => (bigSep_range_fin n fun h => Φ (k, h)).symm

theorem slots_fund : BI.own (ES (F := F) (Release.initSlots (Finset.univ : Finset SK) 6))
    ⊢ (|={Set.univ}=> ((∃ KS, slotsInv (F := F) KS) ∗ (bigSep Finset.univ fun c : Dev nD => readers (F := F) c) ∗ bigSep Finset.univ fun c : Dev nD => writers (F := F) c) : sProp 𝕄) := by
  have hr : bigSep Finset.univ (fun k : SK => (readerAt (ES (F := F)) k 0 : sProp 𝕄)) = bigSep Finset.univ fun c : Dev nD => readers (F := F) c := by
    rw [bigSep_univ_prod]; rfl
  have hw : bigSep ((Finset.univ : Finset SK) ×ˢ Finset.range 6) (fun x => (writeTok (ES (F := F)) x.1 (x.2 + 1) : sProp 𝕄)) = bigSep Finset.univ fun c : Dev nD => writers (F := F) c := by
    rw [trips 6, bigSep_univ_prod, bigSep_univ_comm]
    unfold writers
    rw [bigSep_univ_comm (Φ := fun (c : Dev nD) (l : LN) => (bigSep (Finset.range 6) fun h => writeTok (ES (F := F)) (dst c l.1, l.1, l.2) (h + 1) : sProp 𝕄))]
    refine bigSep_congr fun l _ => ?_
    exact bigSep_univ_equiv (dstE l.1) (fun c : Dev nD => (bigSep (Finset.range 6) fun h => writeTok (ES (F := F)) (c, l.1, l.2) (h + 1) : sProp 𝕄))
  iintro H
  imod (Release.slots_init (ES (F := F)) (Finset.univ : Finset SK) 6 (slotS (F := F))) $$ H with ⟨%KS, -, HI, HR, HW⟩
  imodintro
  isplitl [HI]
  · iexists KS; unfold slotsInv; iexact HI
  isplitl [HR]
  · iapply (Entails.of_eq hr); iexact HR
  · iapply (Entails.of_eq hw); iexact HW

theorem fund_all : BI.own ((embR : Emb (UB × USlots SK) 𝕄) (initOf allCells allToks, Release.initSlots (Finset.univ : Finset SK) 6))
    ⊢ (|={Set.univ}=> bigSep Finset.univ (fun c : Dev nD => G P c) : sProp 𝕄) := by
  iintro H
  ihave H := (own_pair_emb (embR : Emb (UB × USlots SK) 𝕄) (initOf allCells allToks) (Release.initSlots (Finset.univ : Finset SK) 6)) $$ H
  icases H with ⟨HX, HS⟩
  imod (slots_fund (F := F)) $$ HS with ⟨HI, HR, HW⟩
  imod (Rounds.fund (ER (F := F)) (Rd P) allCells allToks) $$ HX with ⟨Hst, Hre, Hat, Htok⟩
  imodintro
  ihave Hst := (Entails.of_eq (cells_deal (F := F) fun g => roundState (ER (F := F)) (Rd P) g 0)) $$ Hst
  ihave Hat := (Entails.of_eq (cells_deal (F := F) fun g => atPos (ER (F := F)) g 0 ∅ 0)) $$ Hat
  ihave Hre := (Entails.of_eq (cells_deal (F := F) fun g => reached (ER (F := F)) g 0)) $$ Hre
  ihave Htok := (Entails.of_eq (toks_deal (F := F))) $$ Htok
  icases HI with ⟨%KS, #HI⟩
  have hi : slotsInv (F := F) KS ⊢ (∃ KS, slotsInv (F := F) KS : sProp 𝕄) := by iintro H; iexists KS; iexact H
  unfold G Lin
  simp only [bigSep_sep']
  isplitl [Hst]; · iexact Hst
  isplitl [Hre]; · iexact Hre
  isplitl [Hat Htok HR HW]
  · isplitl [Hat]; · iexact Hat
    isplitl [Htok]; · iexact Htok
    isplitl [HR] <;> iassumption
  · have h : (slotsInv (F := F) KS : sProp 𝕄) ⊢ bigSep (Finset.univ : Finset (Dev nD)) fun _ => iprop(∃ KS, slotsInv (F := F) KS) :=
      (BI.bigSep_of_persistent Finset.univ (slotsInv (F := F) KS)).trans (bigSep_mono fun _ _ => hi)
    iapply h; iexact HI

/-! ## The semaphores -/

/-- The region's own semaphores. -/
def osem : Fin 14 → SemLoc sig := fun i => csem (ckOf i.castSucc)
theorem ownSemFacts : Pipeline.OwnSemFacts cfg0.spec osem := by decide

theorem ownSems0_eq : (Pipeline.ownSems0 (Ix := ℕ) (Name := ℕ) (U := UU) (Lvl := ℕ) (Val := Elt F) (τ := τ) osem c : sProp 𝕄)
    = bigSepL [0, 1, 2, 3, 4, 5, 6, 7, 8, 9, 10, 11, 12, 13] fun i : Fin 14 => semVal (kcell (c, ckOf i.castSucc)) 0 := by
  rw [Pipeline.ownSems0_eq_of_list c osem [0, 1, 2, 3, 4, 5, 6, 7, 8, 9, 10, 11, 12, 13] (by decide) (by decide)]; rfl
theorem unscopedSems0_eq : (unscopedSems0 c : sProp 𝕄) = semVal (kcell (c, .bar)) 0 := by
  unfold unscopedSems0; rw [bigSep_eq_bigSepL_of_eq [SemLoc.reg barS] (by decide) (by decide)]; rfl

theorem sems0_in : iprop(Pipeline.ownSems0 (Ix := ℕ) (Name := ℕ) (U := UU) (Lvl := ℕ) (Val := Elt F) (τ := τ) osem c ∗ unscopedSems0 c)
    ⊢ (bigSep Finset.univ fun k : CK => semVal (kcell (c, k)) 0 : sProp 𝕄) := by
  rw [ownSems0_eq, unscopedSems0_eq, ck_list]
  show iprop((semVal (kcell (c, CK.send false 0)) 0 ∗ semVal (kcell (c, CK.send false 1)) 0 ∗ semVal (kcell (c, CK.send true 0)) 0 ∗ semVal (kcell (c, CK.send true 1)) 0
    ∗ semVal (kcell (c, CK.recv false 0)) 0 ∗ semVal (kcell (c, CK.recv false 1)) 0 ∗ semVal (kcell (c, CK.recv true 0)) 0 ∗ semVal (kcell (c, CK.recv true 1)) 0
    ∗ semVal (kcell (c, CK.copy false 0)) 0 ∗ semVal (kcell (c, CK.copy false 1)) 0 ∗ semVal (kcell (c, CK.copy true 0)) 0 ∗ semVal (kcell (c, CK.copy true 1)) 0
    ∗ semVal (kcell (c, CK.credit false)) 0 ∗ semVal (kcell (c, CK.credit true)) 0) ∗ semVal (kcell (c, CK.bar)) 0) ⊢ (_ : sProp 𝕄)
  iintro ⟨⟨S1, S2, S3, S4, R1, R2, R3, R4, C1, C2, C3, C4, D1, D2⟩, B⟩
  isplitl [S1]; · iexact S1
  isplitl [S2]; · iexact S2
  isplitl [S3]; · iexact S3
  isplitl [S4]; · iexact S4
  isplitl [R1]; · iexact R1
  isplitl [R2]; · iexact R2
  isplitl [R3]; · iexact R3
  isplitl [R4]; · iexact R4
  isplitl [C1]; · iexact C1
  isplitl [C2]; · iexact C2
  isplitl [C3]; · iexact C3
  isplitl [C4]; · iexact C4
  isplitl [D1]; · iexact D1
  isplitl [D2]; · iexact D2
  iexact B

theorem sems0_out : (bigSep Finset.univ fun k : CK => semVal (kcell (c, k)) 0 : sProp 𝕄)
    ⊢ iprop(Pipeline.ownSems0 (Ix := ℕ) (Name := ℕ) (U := UU) (Lvl := ℕ) (Val := Elt F) (τ := τ) osem c ∗ unscopedSems0 c) := by
  rw [ownSems0_eq, unscopedSems0_eq, ck_list]
  show _ ⊢ (iprop((semVal (kcell (c, CK.send false 0)) 0 ∗ semVal (kcell (c, CK.send false 1)) 0 ∗ semVal (kcell (c, CK.send true 0)) 0 ∗ semVal (kcell (c, CK.send true 1)) 0
    ∗ semVal (kcell (c, CK.recv false 0)) 0 ∗ semVal (kcell (c, CK.recv false 1)) 0 ∗ semVal (kcell (c, CK.recv true 0)) 0 ∗ semVal (kcell (c, CK.recv true 1)) 0
    ∗ semVal (kcell (c, CK.copy false 0)) 0 ∗ semVal (kcell (c, CK.copy false 1)) 0 ∗ semVal (kcell (c, CK.copy true 0)) 0 ∗ semVal (kcell (c, CK.copy true 1)) 0
    ∗ semVal (kcell (c, CK.credit false)) 0 ∗ semVal (kcell (c, CK.credit true)) 0) ∗ semVal (kcell (c, CK.bar)) 0) : sProp 𝕄)
  iintro ⟨S1, S2, S3, S4, R1, R2, R3, R4, C1, C2, C3, C4, D1, D2, B⟩
  isplitr [B]
  · isplitl [S1]; · iexact S1
    isplitl [S2]; · iexact S2
    isplitl [S3]; · iexact S3
    isplitl [S4]; · iexact S4
    isplitl [R1]; · iexact R1
    isplitl [R2]; · iexact R2
    isplitl [R3]; · iexact R3
    isplitl [R4]; · iexact R4
    isplitl [C1]; · iexact C1
    isplitl [C2]; · iexact C2
    isplitl [C3]; · iexact C3
    isplitl [C4]; · iexact C4
    isplitl [D1]; · iexact D1
    iexact D2
  iexact B

/-! ## Every cell's invariant allocated, over all the devices -/

def Records (K : Dev nD × CK → ℕ) (KS : SK → ℕ) : sProp 𝕄 :=
  iprop((bigSep Finset.univ fun ck : Dev nD × CK => cellInv (ER (F := F)) (Rd P) (K ck) (kcell ck)) ∗ slotsInv (F := F) KS
    ∗ bigSep Finset.univ fun ck : Dev nD × CK => reached (ER (F := F)) (kcell ck) 0)
instance Records_persistent (K : Dev nD × CK → ℕ) (KS : SK → ℕ) : BI.Persistent (Records P K KS) := by unfold Records; infer_instance

def G' : sProp 𝕄 := iprop(∃ K KS, Records P K KS ∗ Lin c)

theorem core_alloc : iprop(Pipeline.ownSems0 (Ix := ℕ) (Name := ℕ) (U := UU) (Lvl := ℕ) (Val := Elt F) (τ := τ) osem c ∗ unscopedSems0 c ∗ G P c)
    ⊢ (|={Set.univ}=> ((bigSep Finset.univ fun k : CK => iprop(∃ κ : ℕ, cellInv (ER (F := F)) (Rd P) κ (kcell (c, k)))) ∗ reacheds c ∗ Lin c ∗ ∃ KS, slotsInv (F := F) KS) : sProp 𝕄) := by
  unfold G states
  iintro ⟨Hos, Hus, Hst, Hre, HL, HS⟩
  ihave Hv := (sems0_in (F := F) c) $$ [Hos Hus]
  · isplitl [Hos] <;> iassumption
  imod (show iprop((bigSep Finset.univ fun k : CK => semVal (kcell (c, k)) 0) ∗ bigSep Finset.univ fun k : CK => roundState (ER (F := F)) (Rd P) (kcell (c, k)) 0)
      ⊢ (|={Set.univ}=> bigSep Finset.univ fun k : CK => iprop(∃ κ : ℕ, cellInv (ER (F := F)) (Rd P) κ (kcell (c, k))) : sProp 𝕄) from by
        rw [← bigSep_sep']
        exact (bigSep_mono fun k _ => (Rounds.body_intro (ER (F := F)) (Rd P) (kcell (c, k))).trans inv_alloc).trans (bigSep_fupd _ _)) $$ [Hv Hst] with Hinv
  · isplitl [Hv] <;> iassumption
  imodintro
  isplitl [Hinv]; · iexact Hinv
  isplitl [Hre]; · iexact Hre
  isplitl [HL] <;> iassumption

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (BIClass.sep_mono (BI.bigSep_of_persistent S R) (BI.Entails.refl _)).trans (by rw [← bigSep_sep']; exact bigSep_mono fun i _ => h i)

theorem ghost_intro (K : Dev nD × CK → ℕ) (KS : SK → ℕ) : iprop(Records P K KS ∗ Lin c) ⊢ G' P c := by
  unfold G'
  iintro ⟨HR, HL⟩
  iexists K
  iexists KS
  isplitl [HR] <;> iassumption

theorem regroup : (bigSep Finset.univ fun c : Dev nD => iprop((bigSep Finset.univ fun k : CK => iprop(∃ κ : ℕ, cellInv (ER (F := F)) (Rd P) κ (kcell (c, k)))) ∗ reacheds c ∗ Lin c ∗ ∃ KS, slotsInv (F := F) KS) : sProp 𝕄)
    ⊢ bigSep Finset.univ fun c : Dev nD => G' P c := by
  have h0 : bigSep Finset.univ (fun c : Dev nD => reacheds (F := F) c) = bigSep Finset.univ fun ck : Dev nD × CK => (reached (ER (F := F)) (kcell ck) 0 : sProp 𝕄) := by
    rw [bigSep_univ_prod]; rfl
  rw [bigSep_sep', bigSep_sep', bigSep_sep', ← bigSep_univ_prod (fun ck : Dev nD × CK => iprop(∃ κ : ℕ, cellInv (ER (F := F)) (Rd P) κ (kcell ck)))]
  have hs : (bigSep Finset.univ fun _ : Dev nD => iprop(∃ KS, slotsInv (F := F) KS)) ⊢ (∃ KS, slotsInv (F := F) KS : sProp 𝕄) :=
    bigSep_elim (Φ := fun _ : Dev nD => iprop(∃ KS, slotsInv (F := F) KS)) (Finset.mem_univ (0 : Dev nD))
  iintro ⟨HI, HR, HL, HS⟩
  ihave HR := (Entails.of_eq h0) $$ HR
  ihave HS := hs $$ HS
  icases HS with ⟨%KS, HS⟩
  ihave HK := (BI.bigSep_exists_pi Finset.univ (fun (ck : Dev nD × CK) (κ : ℕ) => (cellInv (ER (F := F)) (Rd P) κ (kcell ck) : sProp 𝕄))) $$ HI
  icases HK with ⟨%K, HI⟩
  iapply (with_persistent (R := Records P K KS) fun c => ghost_intro P c K KS)
  isplitr [HL]
  · unfold Records
    isplitl [HI]; · iexact HI
    isplitl [HS] <;> iassumption
  · iexact HL

theorem glob : (bigSep Finset.univ fun c => iprop(Pipeline.ownSems0 (Ix := ℕ) (Name := ℕ) (U := UU) (Lvl := ℕ) (Val := Elt F) (τ := τ) osem c ∗ unscopedSems0 c ∗ G P c) : sProp 𝕄)
    ⊢ |={Set.univ}=> bigSep Finset.univ (fun c => G' P c) :=
  ((bigSep_mono fun c _ => core_alloc P c).trans (bigSep_fupd _ _)).trans (BI.fupd_mono (regroup P))

end Cert.RingIdeal

end
-- ==== Proof.Start.lean ====
/- From what the launch deals a device to what the body starts from, and from what the body leaves to every cell closed. -/
module

public import proofs.«01_k».proof.Proof.Fund

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (P : Ops F) (K : Dev nD × CK → ℕ) (KS : SK → ℕ) (c : Dev nD)

/-! ## Into the body -/

def T1 (X : Bool) (s : Fin 2) : sProp 𝕄 := bigSep (Finset.range 6) fun h => dutyTok (ER (F := F)) (kcell (c, .send X s)) h 0
def T2 (X : Bool) (s : Fin 2) : sProp 𝕄 := bigSep (Finset.range 6) fun h => dutyTok (ER (F := F)) (kcell (dst c X, .recv X s)) h 0
def T3 (X : Bool) (s : Fin 2) : sProp 𝕄 := bigSep (Finset.range 6) fun h => dutyTok (ER (F := F)) (kcell (c, .copy X s)) h 0
def T5 (X : Bool) (s : Fin 2) : sProp 𝕄 := bigSep (Finset.range 6) fun h => dutyTok (ER (F := F)) (kcell (src c X, .credit X)) 0 (2 * h + s.val)
def TW (X : Bool) (s : Fin 2) : sProp 𝕄 := bigSep (Finset.range 6) fun h => writeTok (ES (F := F)) (dst c X, X, s) (h + 1)
def AT (k : CK) : sProp 𝕄 := atPos (ER (F := F)) (kcell (c, k)) 0 ∅ 0
def RD (X : Bool) (s : Fin 2) : sProp 𝕄 := readerAt (ES (F := F)) (c, X, s) 0
def TB (X : Bool) : sProp 𝕄 := dutyTok (ER (F := F)) (kcell (src c X, .bar)) 0 (barDuty X)

theorem bar_toks : (tokCK c .bar : sProp 𝕄) ⊢ both (TB (F := F) c) := by
  have hs : ({0, 1} : Finset ℕ) ⊆ Finset.range 12 := by decide
  refine (tok_duties c .bar).trans ((bigSep_subset hs).trans ?_)
  rw [bigSep_insert (Φ := fun d => (dutyTok (ER (F := F)) (kcell (payee CK.bar d c, .bar)) 0 d : sProp 𝕄)) (by decide), bigSep_singleton]
  exact BI.Entails.refl _

theorem toks_in : bigSep Finset.univ (tokCK (F := F) c) ⊢ iprop(lanes (T1 c) ∗ lanes (T2 c) ∗ lanes (T3 c) ∗ lanes (T5 c) ∗ both (TB c)) := by
  refine (ck_split _).trans ?_
  refine BIClass.sep_mono (lanes_mono fun X s => tok_rounds c (.send X s)) (BIClass.sep_mono (lanes_mono fun X s => tok_rounds c (.recv X s))
    (BIClass.sep_mono (lanes_mono fun X s => tok_rounds c (.copy X s)) (BIClass.sep_mono ?_ (bar_toks c))))
  exact (both_mono (Ψ := fun X => iprop(T5 (F := F) c X 0 ∗ T5 c X 1)) fun X => (tok_duties c (.credit X)).trans (evens (fun d => dutyTok (ER (F := F)) (kcell (src c X, .credit X)) 0 d) 6)).trans (both_halves _)

theorem lin_split : (Lin c : sProp 𝕄) ⊢ iprop((lanes (fun X s => AT (F := F) c (.send X s)) ∗ lanes (fun X s => AT (F := F) c (.recv X s)) ∗ lanes (fun X s => AT (F := F) c (.copy X s))
      ∗ both (fun X => AT (F := F) c (.credit X)) ∗ AT (F := F) c .bar)
    ∗ (lanes (T1 c) ∗ lanes (T2 c) ∗ lanes (T3 c) ∗ lanes (T5 c) ∗ both (TB c)) ∗ lanes (RD c) ∗ lanes (TW c)) := by
  unfold Lin
  exact BIClass.sep_mono (ck_split (AT (F := F) c)) (BIClass.sep_mono (toks_in c)
    (BIClass.sep_mono (Entails.of_eq (lanes_eq (RD (F := F) c))) (Entails.of_eq (lanes_eq (TW (F := F) c)))))

theorem rt_intro (X : Bool) (s : Fin 2) (h : ℕ) :
    iprop(dutyTok (ER (F := F)) (kcell (c, .send X s)) h 0 ∗ dutyTok (ER (F := F)) (kcell (dst c X, .recv X s)) h 0 ∗ writeTok (ES (F := F)) (dst c X, X, s) (h + 1)
      ∗ dutyTok (ER (F := F)) (kcell (src c X, .credit X)) 0 (2 * h + s.val)
      ∗ cred (tallyAt (kcell (c, .recv X s)) (2 * h + s.val) N) ∗ if 2 ≤ 2 * h + s.val then cred (tallyAt (kcell (c, .credit X)) (2 * h + s.val) 1) else iprop(emp))
    ⊢ RT (F := F) c X s h := by
  unfold RT
  have hs := s.isLt
  by_cases hh : 1 ≤ h
  · rw [if_pos hh, if_pos (by omega)]
    iintro ⟨H1, H2, H3, H5, H6, H7⟩
    isplitl [H1]; · iexact H1
    isplitl [H2]; · iexact H2
    isplitl [H3]; · iexact H3
    isplitl [H6]; · iexact H6
    isplitl [H5] <;> iassumption
  · rw [if_neg hh, if_neg (by omega)]
    iintro ⟨H1, H2, H3, -, H6, -⟩
    isplitl [H1]; · iexact H1
    isplitl [H2]; · iexact H2
    isplitl [H3]; · iexact H3
    isplitl [H6]; · iexact H6
    iempintro

theorem toks_intro (X : Bool) (s : Fin 2) :
    iprop(T1 (F := F) c X s ∗ T2 (F := F) c X s ∗ TW (F := F) c X s ∗ T5 (F := F) c X s ∗ credL (F := F) c X s) ⊢ Toks (F := F) c X s 0 := by
  unfold T1 T2 TW T5 credL Toks
  rw [← bigSep_sep', ← bigSep_sep', ← bigSep_sep', ← bigSep_sep', ← Finset.range_eq_Ico]
  exact bigSep_mono fun h _ => rt_intro c X s h

theorem ct_intro (X : Bool) (s : Fin 2) :
    iprop(T3 (F := F) c X s ∗ bigSep (Finset.Ico 0 4) fun i => iprop(∃ v, own c (outV c X i s) fullShare v)) ⊢ CT (F := F) c X s 0 := by
  unfold T3 CT
  rw [bigSep_sep']
  exact BIClass.sep_mono (bigSep_subset (by decide)) .rfl

/-- All of a lane's. -/
def LaneIn (X : Bool) (s : Fin 2) : sProp 𝕄 :=
  iprop(AT (F := F) c (.send X s) ∗ AT (F := F) c (.recv X s) ∗ AT (F := F) c (.copy X s) ∗ T1 (F := F) c X s ∗ T2 (F := F) c X s ∗ T3 (F := F) c X s ∗ T5 (F := F) c X s
    ∗ RD (F := F) c X s ∗ TW (F := F) c X s ∗ credL (F := F) c X s ∗ anyH c (accM X) s ∗ anyH c (recvM X) s
    ∗ bigSep (Finset.Ico 0 4) fun i => iprop(∃ v, own c (outV c X i s) fullShare v))

theorem lane_intro (X : Bool) (s : Fin 2) : LaneIn (F := F) c X s ⊢ B0 (F := F) c X s := by
  unfold LaneIn B0 AT RD
  iintro ⟨A1, A2, A3, H1, H2, H3, H5, HR, HW, HC, Ha, Hb, HO⟩
  isplitl [A1]; · iexact A1
  isplitl [A2]; · iexact A2
  isplitl [HR]; · iexact HR
  isplitl [H1 H2 H5 HW HC]
  · iapply (toks_intro (F := F) c X s)
    isplitl [H1]; · iexact H1
    isplitl [H2]; · iexact H2
    isplitl [HW]; · iexact HW
    isplitl [H5] <;> iassumption
  isplitl [Ha]; · iexact Ha
  isplitl [Hb]; · iexact Hb
  isplitl [A3]; · iexact A3
  iapply (ct_intro (F := F) c X s)
  isplitl [H3] <;> iassumption

theorem crst_intro (X : Bool) : AT (F := F) c (.credit X) ⊢ CrSt (F := F) c X 2 := by
  unfold AT CrSt
  rw [if_pos (by omega)]
  iintro H
  iexists ∅
  isplitr
  · ipureintro; exact ⟨Finset.empty_subset _, by simp⟩
  isplitl [H]
  · iexact H
  · rw [bigSep_empty]; iempintro

theorem pre_intro : iprop(Lin (F := F) c ∗ (lanes (credL (F := F) c) ∗ cred (tallyAt (kcell (c, .bar)) 0 2)) ∗ (∃ f, (((c : Thread nD τ).loc main_v1) ↦{fullShare} f))
      ∗ Pipeline.scopedRest cfg0.spec c ∗ stg P c ∗ ow c (O₀ c)) ⊢ Pre P c := by
  iintro ⟨HL, ⟨HC, HB⟩, ⟨%f, HO⟩, Hsc, Hst, How⟩
  ihave HL := (lin_split (F := F) c) $$ HL
  icases HL with ⟨⟨A1, A2, A3, A4, A5⟩, ⟨H1, H2, H3, H5, H6⟩, HR, HW⟩
  ihave HO := (out_split c f) $$ HO
  ihave Hsc := (scratch_split c) $$ Hsc
  icases Hsc with ⟨Ma, Mr, Mp⟩
  ihave H := (lanes_sep (fun X s => anyH c (recvM X) s) _) $$ [Mr HO]
  · isplitl [Mr] <;> iassumption
  ihave H := (lanes_sep (fun X s => anyH c (accM X) s) _) $$ [Ma H]
  · isplitl [Ma] <;> iassumption
  ihave H := (lanes_sep (credL (F := F) c) _) $$ [HC H]
  · isplitl [HC] <;> iassumption
  ihave H := (lanes_sep (TW (F := F) c) _) $$ [HW H]
  · isplitl [HW] <;> iassumption
  ihave H := (lanes_sep (RD (F := F) c) _) $$ [HR H]
  · isplitl [HR] <;> iassumption
  ihave H := (lanes_sep (T5 (F := F) c) _) $$ [H5 H]
  · isplitl [H5] <;> iassumption
  ihave H := (lanes_sep (T3 (F := F) c) _) $$ [H3 H]
  · isplitl [H3] <;> iassumption
  ihave H := (lanes_sep (T2 (F := F) c) _) $$ [H2 H]
  · isplitl [H2] <;> iassumption
  ihave H := (lanes_sep (T1 (F := F) c) _) $$ [H1 H]
  · isplitl [H1] <;> iassumption
  ihave H := (lanes_sep (fun X s => AT (F := F) c (.copy X s)) _) $$ [A3 H]
  · isplitl [A3] <;> iassumption
  ihave H := (lanes_sep (fun X s => AT (F := F) c (.recv X s)) _) $$ [A2 H]
  · isplitl [A2] <;> iassumption
  ihave H := (lanes_sep (fun X s => AT (F := F) c (.send X s)) _) $$ [A1 H]
  · isplitl [A1] <;> iassumption
  unfold Pre
  isplitl [H]
  · iapply (lanes_mono (Φ := LaneIn (F := F) c) (lane_intro (F := F) c))
    unfold LaneIn
    iexact H
  isplitl [Mp]; · iexact Mp
  isplitl [A4]
  · iapply (both_mono (crst_intro (F := F) c)); iexact A4
  isplitl [A5 HB H6]
  · unfold AT TB
    isplitl [A5]; · iexact A5
    isplitl [HB] <;> iassumption
  isplitl [Hst] <;> iassumption

/-! ## Out of the body -/

theorem ck_join (Φ : CK → sProp 𝕄) :
    iprop(lanes (fun X s => Φ (.send X s)) ∗ lanes (fun X s => Φ (.recv X s)) ∗ lanes (fun X s => Φ (.copy X s)) ∗ both (fun X => Φ (.credit X)) ∗ Φ .bar) ⊢ bigSep Finset.univ Φ := by
  rw [ck_list]
  iintro ⟨⟨⟨S1, S2⟩, ⟨S3, S4⟩⟩, ⟨⟨R1, R2⟩, ⟨R3, R4⟩⟩, ⟨⟨C1, C2⟩, ⟨C3, C4⟩⟩, ⟨D1, D2⟩, B⟩
  isplitl [S1]; · iexact S1
  isplitl [S3]; · iexact S3
  isplitl [S2]; · iexact S2
  isplitl [S4]; · iexact S4
  isplitl [R1]; · iexact R1
  isplitl [R3]; · iexact R3
  isplitl [R2]; · iexact R2
  isplitl [R4]; · iexact R4
  isplitl [C1]; · iexact C1
  isplitl [C3]; · iexact C3
  isplitl [C2]; · iexact C2
  isplitl [C4]; · iexact C4
  isplitl [D1]; · iexact D1
  isplitl [D2]; · iexact D2
  iexact B

/-- A device's positions once the body is done. -/
def AE (k : CK) : sProp 𝕄 := atPos (ER (F := F)) (kcell (c, k)) (rounds k) ∅ 0

theorem close_one (k : CK) : iprop(Ctx P K KS ∗ AE (F := F) c k) ⊢ (|={Set.univ}=> semVal (kcell (c, k)) 0 : sProp 𝕄) := by
  iintro ⟨#HC, H⟩
  ihave #HI := (Ctx.cell P K KS (c, k)) $$ HC
  iapply (Rounds.cell_close (ER (F := F)) (Rd P) (Set.mem_univ (K (c, k))) (fun h => h) (R := rounds k) (duties_later P c k))
  isplitr; · iexact HI
  unfold AE; iexact H

theorem close_all : iprop(Ctx P K KS ∗ bigSep Finset.univ (AE (F := F) c)) ⊢ (|={Set.univ}=> bigSep Finset.univ fun k : CK => semVal (kcell (c, k)) 0 : sProp 𝕄) :=
  (with_persistent (R := Ctx P K KS) (Ψ := fun k => iprop(|={Set.univ}=> semVal (kcell (c, k)) 0)) fun k => close_one P K KS c k).trans (bigSep_fupd _ _)

theorem lanes_split (Φ Ψ : Bool → Fin 2 → sProp 𝕄) : lanes (fun X s => iprop(Φ X s ∗ Ψ X s)) ⊢ iprop(lanes Φ ∗ lanes Ψ) := by
  iintro ⟨⟨⟨H1, G1⟩, ⟨H2, G2⟩⟩, ⟨⟨H3, G3⟩, ⟨H4, G4⟩⟩⟩
  isplitl [H1 H2 H3 H4]
  · isplitl [H1 H2]
    · isplitl [H1] <;> iassumption
    · isplitl [H3] <;> iassumption
  · isplitl [G1 G2]
    · isplitl [G1] <;> iassumption
    · isplitl [G3] <;> iassumption

theorem crst_elim (X : Bool) : CrSt (F := F) c X 12 ⊢ AE (F := F) c (.credit X) := by
  unfold CrSt AE
  rw [if_neg (by omega)]
  exact .rfl

theorem le_split : lanes (LE P c) ⊢ iprop(lanes (fun X s => AE (F := F) c (.send X s)) ∗ lanes (fun X s => AE (F := F) c (.recv X s)) ∗ lanes (fun X s => AE (F := F) c (.copy X s))
    ∗ lanes (fun X s => anyH c (accM X) s) ∗ lanes (fun X s => anyH c (recvM X) s) ∗ lanes (fun X s => Done P c X s 4)) := by
  unfold LE
  refine (lanes_split _ _).trans (BIClass.sep_mono .rfl ?_)
  refine (lanes_split _ _).trans (BIClass.sep_mono .rfl ?_)
  refine (lanes_split _ _).trans (BIClass.sep_mono .rfl ?_)
  refine (lanes_split _ _).trans (BIClass.sep_mono .rfl ?_)
  exact lanes_split _ _

/-- Every cell closed, the memory back whole. -/
def Exit : sProp 𝕄 := iprop((bigSep Finset.univ fun k : CK => semVal (kcell (c, k)) 0) ∗ Pipeline.scopedRest cfg0.spec c
  ∗ ∃ f, ⌜Final P c f⌝ ∗ (((c : Thread nD τ).loc main_v1) ↦{fullShare} f))

theorem post_exit : iprop(Ctx P K KS ∗ Post P c) ⊢ (|={Set.univ}=> (Exit P c ∗ stg P c ∗ ow c 0) : sProp 𝕄) := by
  unfold Post Exit
  iintro ⟨#HC, HL, Mp, Hcr, HB, Hst, How⟩
  ihave HL := (le_split P c) $$ HL
  icases HL with ⟨A1, A2, A3, Ma, Mr, HD⟩
  ihave A4 := (both_mono (crst_elim (F := F) c)) $$ Hcr
  ihave HA := (ck_join (AE (F := F) c)) $$ [A1 A2 A3 A4 HB]
  · isplitl [A1]; · iexact A1
    isplitl [A2]; · iexact A2
    isplitl [A3]; · iexact A3
    isplitl [A4]; · iexact A4
    unfold AE; iexact HB
  imod (close_all P K KS c) $$ [HA] with HS
  · isplitr; · iexact HC
    iexact HA
  imodintro
  isplitr [Hst How]
  · isplitl [HS]; · iexact HS
    isplitl [Ma Mr Mp]
    · iapply (scratch_join c)
      isplitl [Ma]; · iexact Ma
      isplitl [Mr] <;> iassumption
    iapply (out_join P c); iexact HD
  isplitl [Hst] <;> iassumption

end Cert.RingIdeal

end
-- ==== Proof.Run.lean ====
/- The run of the whole program over four devices: every device's arguments end as they were, its result holds every piece
   at the reduced values, and every semaphore counter ends at zero. -/
module

public import proofs.«01_k».proof.Proof.Start

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-- The operands the devices start with: their two arguments, as they are staged. -/
def PM : Ops F where
  x := fun c => (win0_0.blk (0 : Fin 1)).view.read (Elt F) ((s₀ m ρ).mem ((c : Thread nD τ).loc main_arg0))
  w := fun c => (win0_1.blk (0 : Fin 1)).view.read (Elt F) ((s₀ m ρ).mem ((c : Thread nD τ).loc main_arg1))

variable (c : Dev nD)

/-- What the body starts from besides its staged arguments and its scratch memory. -/
def start : sProp 𝕄 := iprop((∃ K KS, Ctx (PM m ρ) K KS) ∗ Lin (F := F) c ∗ (lanes (credL (F := F) c) ∗ cred (tallyAt (kcell (c, .bar)) 0 2))
  ∗ ∃ f, (((c : Thread nD τ).loc main_v1) ↦{fullShare} f))
def Φ₀ : sProp 𝕄 := iprop(start m ρ c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (PM m ρ).x c
    | ⟨1, _⟩ => (PM m ρ).w c
  Φ t := match t with
    | ⟨0, _⟩ => Φ₀ m ρ c
    | ⟨_ + 1, _⟩ => Exit (PM m ρ) c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl
theorem fetch_1 (t : Fin cfg0.N) : (cfg0.win (1 : Fin 2)).fetch t = true := by rw [fin_N0 t]; rfl

theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stgAt (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt 0 t0_0.castSucc
    ∗ (∃ d, stgAt c cc0_stg0_0 ((dats m ρ 0 c).before (0 : Fin 2) t0_0 d))
    ∗ (∃ d, stgAt c cc0_stg1_0 ((dats m ρ 0 c).before (1 : Fin 2) t0_0 d)))
def bodyPost : sProp 𝕄 :=
  iprop(Exit (PM m ρ) c ∗ (dats m ρ 0 c).owesAt 0 t0_0.succ ∗ stgAt c cc0_stg0_0 ((PM m ρ).x c) ∗ stgAt c cc0_stg1_0 ((PM m ρ).w c))

theorem before_0 (d) : (dats m ρ 0 c).before (0 : Fin 2) t0_0 d = (PM m ρ).x c := by unfold Dat.before; rw [if_pos (fetch_0 t0_0)]; rfl
theorem before_1 (d) : (dats m ρ 0 c).before (1 : Fin 2) t0_0 d = (PM m ρ).w c := by unfold Dat.before; rw [if_pos (fetch_1 t0_0)]; rfl

theorem owes_in : ((dats m ρ 0 c).owesAt 0 t0_0.castSucc : sProp 𝕄) ⊢ ow (F := F) c (O₀ c) := by
  unfold Dat.owesAt Pipeline.owesWithin ow
  rw [show (dats m ρ 0 c).owed t0_0.castSucc = O₀ c from rfl]
  iintro ⟨%W, %hW, H⟩
  iexists W; iexact H
theorem owes_out : ow (F := F) c 0 ⊢ ((dats m ρ 0 c).owesAt 0 t0_0.succ : sProp 𝕄) := by
  unfold Dat.owesAt Pipeline.owesWithin ow
  rw [show (dats m ρ 0 c).owed t0_0.succ = 0 from rfl]
  iintro ⟨%W, H⟩
  iexists W
  isplitr
  · ipureintro; exact fun _ _ => Or.inl trivial
  · iexact H

theorem sound_body : bodyPre m ρ c ⊢ wp frame (wpE (defs₀ (F := F)) 𝒱₀ c none) Set.univ (body (F := F)) (fun _ => bodyPost m ρ c) := by
  have hb := tr_body (PM m ρ)
  unfold Tr at hb
  unfold bodyPre Φ₀ start stgAt
  iintro ⟨⟨⟨⟨%K, %KS, #HC⟩, HL, Hcr, Hout⟩, Hsc⟩, Ho, ⟨%d0, %f0, %e0, Hx⟩, ⟨%d1, %f1, %e1, Hw⟩⟩
  ihave Ho := (owes_in m ρ c) $$ Ho
  ihave Hpre := (pre_intro (PM m ρ) c) $$ [HL Hcr Hout Hsc Ho Hx Hw]
  · isplitl [HL]; · iexact HL
    isplitl [Hcr]; · iexact Hcr
    isplitl [Hout]; · iexact Hout
    isplitl [Hsc]; · iexact Hsc
    isplitl [Hx Hw]
    · unfold stg
      rw [← before_0 m ρ c d0, ← before_1 m ρ c d1, ← e0, ← e1]
      isplitl [Hx] <;> iassumption
    · iexact Ho
  iapply (wp_fupd frame _ Set.univ (body (F := F)) (fun _ => bodyPost m ρ c))
  iapply (hb K KS c (fun _ => iprop(|={Set.univ}=> bodyPost m ρ c))) $$ [Hpre]
  · isplitr; · iexact HC
    iexact Hpre
  iintro Hpost
  imod (post_exit (PM m ρ) K KS c) $$ [Hpost] with ⟨HE, Hst, Ho⟩
  · isplitr; · iexact HC
    iexact Hpost
  unfold stg
  icases Hst with ⟨Hx, Hw⟩
  imodintro
  unfold bodyPost stgAt
  isplitl [HE]; · iexact HE
  isplitl [Ho]; · iapply (owes_out m ρ c); iexact Ho
  isplitl [Hx]
  · iexists _
    isplitr; · (ipureintro; rfl)
    iexact Hx
  · iexists _
    isplitr; · (ipureintro; rfl)
    iexact Hw

theorem defs_body : defs₀ (F := F) Proc.tc 0 (t0_0, cfg0.slots t0_0) = body (F := F) :=
  (show defs₀ (F := F) Proc.tc 0 (t0_0, cfg0.slots t0_0) = bodyAt0 (F := F) t0_0 from rfl).trans body_eq

set_option maxRecDepth 65536 in
/-- The launch theorem's obligation on the body. -/
theorem body_obligation : BodyObligation (dats (F := F) m ρ 0 c) (defs₀ (F := F)) 𝒱₀ 0 Set.univ := fun t => by
  rw [fin_N0 t]
  rw [bigSep_W0, bigSep_W0]
  simp only [owns_whole_eq]
  have h := (congrArg (fun p : Prog (TpuEff nD τ sig (Elt F) Λ₀ .tc) PUnit => bodyPre m ρ c ⊢ wp frame (wpE (defs₀ (F := F)) 𝒱₀ c none) Set.univ p (fun _ => bodyPost m ρ c)) (defs_body (F := F))).mpr (sound_body m ρ c)
  unfold bodyPre bodyPost stgAt at h
  exact h

theorem share_eq (w : Fin cfg0.W) : (dats m ρ 0 c).share w = fullShare := by unfold Dat.share; split <;> rfl

/-- A staging semaphore is none of the protocol's: it waits at level 0, and everything owed lies above. -/
theorem mayWait_stage (q : DmaSem sig) (hq : ∀ i : Fin 15, csem (ckOf i) ≠ .dma q) (O : CellTallies nD τ sig ℕ) (hO : O = O₀ c ∨ O = 0) :
    (levAts L lv : sProp 𝕄) ⊢ MayWait (c : Thread nD τ) (.dma q) 0 O := by
  have hn : decode (SemLoc.dma q) = none := by
    unfold decode
    rw [dif_neg]
    rintro ⟨k, hk⟩
    obtain ⟨i, rfl⟩ := ckOf_surj k
    exact hq i hk
  have hl : lv ((c : Thread nD τ), SemLoc.dma q) 0 ≤ 0 := by
    unfold lv
    rw [hn]
  rcases hO with rfl | rfl
  · exact Above.mayWait (((above_owe c 0 0 (by omega) (by omega)).add (Above.at (by omega) (by decide))).add (Above.at (by omega) (by decide))) c _ 0 (by omega) hl
  · rw [MayWait_zero]; iintro -; iempintro

theorem cell_waits : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The launch theorem's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (PM m ρ) c)
      ⊢ (|={Set.univ}=> (start m ρ c ∗ emp) : sProp 𝕄) := by
  iintro ⟨Hout, #Hlev, Hcr, -, HG⟩
  ihave Hcr := (creds (F := F) c) $$ Hcr
  unfold G'
  icases HG with ⟨%K, %KS, HR, HL⟩
  imodintro
  unfold start
  isplitl
  · isplitl [HR]
    · iexists K; iexists KS
      unfold Records slotsInv Ctx
      icases HR with ⟨H1, H2, H3⟩
      isplitl [H1]; · iexact H1
      isplitl [H2]; · iexact H2
      isplitr; · iexact Hlev
      iexact H3
    isplitl [HL]; · iexact HL
    isplitl [Hcr]; · iexact Hcr
    iexists (m ((c : Thread nD τ).loc main_v1))
    iapply (Entails.of_eq ((Pipeline.unscopedRestP_none cfg0.spec c _).trans (unscopedRest0_eq c fun b => m ((c : Thread nD τ).loc b))))
    iexact Hout
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

/-- What a device still has after the region: the launch's semaphore at zero and its result. -/
def Y : sProp 𝕄 := iprop(unscopedSems0 c ∗ ∃ f, ⌜Final (PM m ρ) c f⌝ ∗ (((c : Thread nD τ).loc main_v1) ↦{fullShare} f))

theorem phi1_exit : (dats m ρ 0 c).Φ (Fin.last cfg0.N) ⊢ iprop(Y m ρ c ∗ Pipeline.ownSems0 osem c ∗ Pipeline.scopedRest cfg0.spec c) := by
  rw [show (dats m ρ 0 c).Φ (Fin.last cfg0.N) = Exit (PM m ρ) c from rfl]
  unfold Exit Y
  iintro ⟨HS, Hsc, HO⟩
  ihave HS := (sems0_out (F := F) c) $$ HS
  icases HS with ⟨Hos, Hus⟩
  isplitl [Hus HO]
  · isplitl [Hus] <;> iassumption
  isplitl [Hos] <;> iassumption

/-- What is read off device `c`'s final memory. -/
def QY (s : MemSt nD τ sig (Elt F)) : Prop :=
  Final (PM m ρ) c (s.mem ((c : Thread nD τ).loc main_v1)) ∧ ∀ sm : SemLoc sig, sm.isScoped .tc = false → s.sem ((c.tc : Thread nD τ), sm) = 0

theorem y_read (s' : Phys nD τ sig (Elt F)) : iprop(Y m ρ c ∗ emp ∗ SI s') ⊢ (|={Set.univ}=> (⌜QY m ρ c s'.mem⌝ ∗ SI s') : sProp 𝕄) := by
  unfold Y
  iintro ⟨⟨Hu, %f, %hf, Hf⟩, -, HSI⟩
  ihave %hu := (tcUnscoped_read c s') $$ [Hu HSI]
  · isplitl [Hu] <;> iassumption
  ihave %he := SI_pointsTo_agree $$ [HSI Hf]
  · isplitl [HSI] <;> iassumption
  imodintro
  isplitr
  · ipureintro
    have e : s'.mem.mem ((c : Thread nD τ).loc main_v1) = f := funext fun i => he i (Finset.mem_univ i)
    exact ⟨by rw [e]; exact hf, hu⟩
  · iexact HSI

/-! ## The run -/

def finalA (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, (∀ w : Fin cfg0.W, r.2.mem ((cfg0.win w).arr.view.loc (c : Thread nD τ)) = finalA m ρ c w)
    ∧ Final (PM m ρ) c (r.2.mem ((c : Thread nD τ).loc main_v1))

set_option maxRecDepth 65536 in
/-- From any memory with zero counters every weakly fair execution of the program on the four devices terminates, with each
    device's arguments unchanged, its result at the reduced values, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := cell_waits m ρ)
    (G := G (PM m ρ)) (G' := G' (PM m ρ)) (u₀ := u₀)
    (hu₀ := by
      unfold u₀
      iintro Hu
      ihave H := (ownU_pair _ _) $$ Hu
      icases H with ⟨HP, HX⟩
      imod (fund_all (PM m ρ)) $$ HX with HG
      imodintro
      isplitl [HP] <;> iassumption)
    (hglob := glob (PM m ρ))
    (hA := fun _ _ => rfl) (hpf := fun _ k => k.elim0)
    (X := start m ρ) (Y := Y m ρ) (Z := fun _ => iprop(emp))
    (hX := start_intro m ρ) (hin := phi0_intro m ρ) (hout := phi1_exit m ρ)
    (QY := QY m ρ)
    (hY := y_read m ρ)
    (hQ := fun _ h hs => ⟨fun c => ⟨fun w => (h c).1 w, (h c).2.2.1⟩, sem_eq_zero hs fun c => (h c).2.2.2⟩)

/-- The arguments' arrays after the run hold what they held. -/
theorem finalA_0 : finalA m ρ c (0 : Fin 2) = (s₀ m ρ).mem (win0_0.arr.view.loc (c : Thread nD τ)) :=
  (dats (F := F) m ρ 0 c).arrAt_in (0 : Fin 2) rfl _
theorem finalA_1 : finalA m ρ c (1 : Fin 2) = (s₀ m ρ).mem (win0_1.arr.view.loc (c : Thread nD τ)) :=
  (dats (F := F) m ρ 0 c).arrAt_in (1 : Fin 2) rfl _

end Cert.RingIdeal

end
-- ==== Proof.Value.lean ====
/- What the ring's pieces hold over the extended reals, where a sum may be taken in any order: each entry is the whole
   product's entry, cut below at zero. A device's term is a sum over its 1024 columns of the left operand; the four
   devices' terms, in the order the ring happens to add them, are the sum over all 4096. -/
module

public import proofs.«01_k».proof.Proof.Memory
public import Idealize.ShloMosaic.Lib.MatmulPlain
public import Idealize.ShloMosaic.Lib.Layout
public import Idealize.ShloMosaic.Lib.Pipeline.Value

@[expose] public section

noncomputable section

namespace Cert.RingIdeal

open Cert.KernelIdeal Cert.KernelIdeal.Gen
open Idealize.ShloMosaic Idealize.ShloMosaic.TcCoe Idealize.ShloMosaic.ValueIdx
open scoped BigOperators

/-- An array's entry, as an extended real. -/
abbrev ent {s : Shape} (f : s.Idx → EReal) (j : s.Idx) : EReal := f j

variable (P : Ops Ideal)

/-! ## One device's term -/

/-- Device `d`'s term of entry `(R, Q)`: its columns of the left operand against its rows of the right one. -/
def devTerm (R : Fin 4096) (Q : Fin 2048) (d : Dev nD) : EReal :=
  ∑ k : Fin 1024, ent (s := S4096x1024) (P.x d) (ix2 R k) * ent (s := S1024x2048) (P.w d) (ix2 k Q)

/-- The product of a block of rows and a block of columns, read at an entry. -/
theorem mul_apply (x : Vec Ideal S512x1024 .f32) (w : Vec Ideal S1024x1024 .f32) (r : Fin 512) (q : Fin 1024) :
    ent (s := S512x1024) (mul x w) (ix2 r q)
      = ∑ k : Fin 1024, ent (s := S512x1024) x (ix2 r k) * ent (s := S1024x1024) w (ix2 k q) := by
  unfold mul
  rw [shapeCast_self, shapeCast_self, shapeCast_self]
  refine (Ideal.matmul_plain_apply (M := 512) (K := 1024) (N := 1024) (φ₁ := .f32) (φ₂ := .f32) none x w _ r q).trans ?_
  show Ideal.ofBits .f32 0x00000000#32 + _ = _
  rw [Ideal.ofBits_zero_f32, zero_add]

theorem add_apply (a b : Vec Ideal S512x1024 .f32) (j : S512x1024.Idx) :
    ent (s := S512x1024) (add a b) j = ent (s := S512x1024) a j + ent (s := S512x1024) b j := by
  unfold add
  rw [shapeCast_self]
  rfl

theorem relu_apply (a b : Vec Ideal S512x1024 .f32) (j : S512x1024.Idx) :
    ent (s := S512x1024) (relu a b) j = max (ent (s := S512x1024) a j + ent (s := S512x1024) b j) 0 := by
  unfold relu
  rw [shapeCast_self]
  show max _ (Ideal.ofBits .f32 0x00000000#32) = _
  rw [Ideal.ofBits_zero_f32]
  rfl

theorem fwd_eq (a : Vec Ideal S512x1024 .f32) : fwd a = a := shapeCast_self _ _

/-- The first column of a direction's half of the result. -/
def col0 (X : Bool) : ℕ := if X then 1024 else 0

/-- A product of the ring is the device's term, at the rows its round reads and the direction's columns. -/
theorem PV_apply (X : Bool) (h : Fin 4) (s : Fin 2) (d : Dev nD) (r : Fin 512) (q : Fin 1024) (R : Fin 4096) (Q : Fin 2048)
    (hR : R.val = xoff d X h.val s 0 + r.val) (hQ : Q.val = col0 X + q.val) :
    ent (s := S512x1024) (PV P X h.val s d) (ix2 r q) = devTerm P R Q d := by
  unfold PV devTerm
  rw [mul_apply]
  have h1 : xoff d X h.val s 1 = 0 := congrFun (xoff_fin d X h s) 1
  refine Finset.sum_congr rfl fun k _ => congrArg₂ (fun a b : EReal => a * b) ?_ ?_
  · show ent (s := S4096x1024) (P.x d) ((xrect d X h.val s).emb (ix2 r k)) = _
    refine congrArg (ent (s := S4096x1024) (P.x d)) (funext fun a => Fin.ext ?_)
    match a with
    | ⟨0, _⟩ => show xoff d X h.val s 0 + 1 * r.val = R.val; omega
    | ⟨1, _⟩ => show xoff d X h.val s 1 + 1 * k.val = k.val; omega
  · show ent (s := S1024x2048) (P.w d) ((wrect X).emb (ix2 k q)) = _
    refine congrArg (ent (s := S1024x2048) (P.w d)) (funext fun a => Fin.ext ?_)
    match a with
    | ⟨0, _⟩ => show 0 + 1 * k.val = k.val; omega
    | ⟨1, _⟩ => show col0 X + 1 * q.val = Q.val; omega

/-! ## The four terms along the ring -/

/-- The device `n` steps upstream. -/
def back (X : Bool) : ℕ → Dev nD → Dev nD
  | 0, c => c
  | n + 1, c => back X n (src c X)

/-- The chunk of rows that device `c` finishes. -/
def doneChunk (X : Bool) (c : Dev nD) : ℕ := if X then (c.val + 3) % 4 else (c.val + 1) % 4

/-- A chunk's rows are the same wherever the ring adds to them. -/
theorem xoff_back (X : Bool) (h : Fin 4) (s : Fin 2) (c : Dev nD) :
    xoff (back X (3 - h.val) c) X h.val s 0 = 1024 * doneChunk X c + 512 * s.val := by
  refine (congrFun (xoff_fin _ X h s) 0).trans ?_
  show 1024 * _ + 512 * s.val = _
  refine congrArg (fun n => 1024 * n + 512 * s.val) ?_
  revert X h c; decide

/-- The chunk device `c` stores `i`-th is the one finished `i` steps upstream. -/
theorem doneChunk_back (X : Bool) (i : Fin 4) (c : Dev nD) : doneChunk X (back X i.val c) = chunk c X i := by
  revert X i c; decide

/-- The ring's order of the four devices is some order of them. -/
theorem sum_back (f : Dev nD → EReal) (X : Bool) (c : Dev nD) :
    f (back X 3 c) + f (back X 2 c) + f (back X 1 c) + f c = ∑ d : Dev nD, f d := by
  have e : (Finset.univ : Finset (Dev nD)).val = {back X 3 c, back X 2 c, back X 1 c, c} := by
    revert X c; decide
  show _ = (Multiset.map f (Finset.univ : Finset (Dev nD)).val).sum
  rw [e]
  simp [add_assoc]

/-- What a device finishes: the four terms, cut below at zero. -/
theorem D3_apply (X : Bool) (s : Fin 2) (c : Dev nD) (r : Fin 512) (q : Fin 1024) (R : Fin 4096) (Q : Fin 2048)
    (hR : R.val = 1024 * doneChunk X c + 512 * s.val + r.val) (hQ : Q.val = col0 X + q.val) :
    ent (s := S512x1024) (D P X 3 s c) (ix2 r q) = max (∑ d : Dev nD, devTerm P R Q d) 0 := by
  have hx (h : Fin 4) := PV_apply P X h s (back X (3 - h.val) c) r q R Q (by rw [xoff_back]; exact hR) hQ
  rw [← sum_back (devTerm P R Q) X c]
  refine (relu_apply _ _ _).trans ?_
  refine congrArg₂ (fun a b : EReal => max (a + b) 0) ?_ (hx 3)
  refine (add_apply _ _ _).trans (congrArg₂ (fun a b : EReal => a + b) ?_ (hx 2))
  exact (add_apply _ _ _).trans (congrArg₂ (fun a b : EReal => a + b) (hx 0) (hx 1))

/-- Forwarding changes nothing. -/
theorem D_back (X : Bool) (s : Fin 2) (n : ℕ) (c : Dev nD) : D P X (3 + n) s c = D P X 3 s (back X n c) := by
  induction n generalizing c with
  | zero => rfl
  | succ n ih =>
    rw [show 3 + (n + 1) = n + 4 by omega]
    show fwd (D P X (n + 3) s (src c X)) = _
    rw [fwd_eq, Nat.add_comm n 3, ih]
    rfl

/-- A piece of the result is what was finished upstream. -/
theorem OV_back (X : Bool) (i : Fin 4) (s : Fin 2) (c : Dev nD) : OV P X i.val s c = D P X 3 s (back X i.val c) := by
  unfold OV
  split
  · exact D_back P X s i.val c
  · rw [show i.val = 3 by omega]
    exact D_back P X s 2 (src c X)

/-- Every entry of a finished result is the four terms, cut below at zero. -/
theorem Final.apply {c : Dev nD} {f : (main_v1 : Ref sig .tc).ty.Contents (Elt Ideal)} (hf : Final P c f) (R : Fin 4096) (Q : Fin 2048) :
    ent (s := S4096x2048) f (ix2 R Q) = max (∑ d : Dev nD, devTerm P R Q d) 0 := by
  obtain ⟨t, -, ht⟩ := Finset.mem_biUnion.mp (orect_cover c ▸ Finset.mem_univ (ix2 R Q : S4096x2048.Idx))
  obtain ⟨⟨X, s⟩, i⟩ := t
  obtain ⟨⟨h1, h2⟩, h3, h4⟩ := (mem_orect c X s i _).mp ht
  have h1 : 1024 * chunk c X i + 512 * s.val ≤ R.val := h1
  have h2 : R.val < 1024 * chunk c X i + 512 * s.val + 512 := h2
  have h3 : col0 X ≤ Q.val := h3
  have h4 : Q.val < col0 X + 1024 := h4
  have e := congrFun (hf ((X, s), i)) (ix2 ⟨R.val - (1024 * chunk c X i + 512 * s.val), by omega⟩ ⟨Q.val - col0 X, by omega⟩)
  refine Eq.trans (congrArg (ent (s := S4096x2048) f) (funext fun a => Fin.ext ?_)) (e.trans ?_)
  · match a with
    | ⟨0, _⟩ =>
      show R.val = ooff c X i.val s 0 + 1 * (R.val - (1024 * chunk c X i + 512 * s.val))
      rw [ooff_row]; omega
    | ⟨1, _⟩ =>
      show Q.val = ooff c X i.val s 1 + 1 * (Q.val - col0 X)
      rw [ooff_col]; show _ = col0 X + _; omega
  · rw [OV_back]
    exact D3_apply P X s _ _ _ R Q (by
        rw [doneChunk_back]
        show R.val = 1024 * chunk c X i + 512 * s.val + (R.val - (1024 * chunk c X i + 512 * s.val))
        omega)
      (by show Q.val = col0 X + (Q.val - col0 X); omega)

/-! ## Against the whole product -/

/-- The devices' terms, their operands being blocks of the whole ones, are the whole product's entry. -/
theorem sum_devTerm (x : (⟨2, ![4096, 4096]⟩ : Shape).Idx → EReal) (w : S4096x2048.Idx → EReal)
    (hx : ∀ d, P.x d = Layout.block ⟨2, ![4096, 1024]⟩ ⟨2, ![4096, 4096]⟩ 1 4 d x)
    (hw : ∀ d, P.w d = Layout.block ⟨2, ![1024, 2048]⟩ ⟨2, ![4096, 2048]⟩ 0 4 d w) (R : Fin 4096) (Q : Fin 2048) :
    ∑ d : Dev nD, devTerm P R Q d = ∑ k : Fin 4096, x (ix2 R k) * w (ix2 k Q) := by
  unfold devTerm
  rw [← Fintype.sum_prod_type' (f := fun (d : Dev nD) (k : Fin 1024) =>
    ent (s := S4096x1024) (P.x d) (ix2 R k) * ent (s := S1024x2048) (P.w d) (ix2 k Q))]
  refine Fintype.sum_equiv (finProdFinEquiv (m := 4) (n := 1024)) _ _ fun ⟨d, k⟩ => ?_
  rw [hx, hw]
  refine congrArg₂ (fun a b : EReal => a * b) (congrArg x (funext fun a => Fin.ext ?_)) (congrArg w (funext fun a => Fin.ext ?_))
  · match a with
    | ⟨0, _⟩ => rfl
    | ⟨1, _⟩ => show d.val * 1024 + k.val = k.val + 1024 * d.val; omega
  · match a with
    | ⟨0, _⟩ => show d.val * 1024 + k.val = k.val + 1024 * d.val; omega
    | ⟨1, _⟩ => rfl

end Cert.RingIdeal

end
-- ==== Proof.Whole.lean ====
/- The reference's result read at an entry, and the ring's result against it. -/
module

public import proofs.«01_k».proof.Proof.Run
public import proofs.«01_k».proof.Proof.Value
public import proofs.«01_k».proof.Proof.Gen.ReferenceIdeal.Run

@[expose] public section

noncomputable section

namespace Cert.RingIdeal

open Idealize.ShloMosaic Idealize.ShloMosaic.TcCoe Idealize.ShloMosaic.ValueIdx
open scoped BigOperators

/-- The reference's result: the whole product, cut below at zero. -/
def whole (x : Vec Ideal ReferenceIdeal.S4096x4096 .f32) (w : Vec Ideal ReferenceIdeal.S4096x2048 .f32) :
    FVec Ideal ReferenceIdeal.S4096x2048 .f32 :=
  maximumf (Host.dotGeneral (φ₁ := .f32) (φ₂ := .f32) ReferenceIdeal.dot_S4096x4096_S4096x2048_S4096x2048_1_0_0_1_n_n none x w)
    (broadcastInDim ReferenceIdeal.S4096x2048 ![] ReferenceIdeal.Gen.facts.bcast_S_S4096x2048
      (constant ReferenceIdeal.S_ .f32 0x00000000#32))

theorem whole_apply (x : Vec Ideal ReferenceIdeal.S4096x4096 .f32) (w : Vec Ideal ReferenceIdeal.S4096x2048 .f32)
    (R : Fin 4096) (Q : Fin 2048) :
    ent (s := ReferenceIdeal.S4096x2048) (whole x w) (ix2 R Q)
      = max (∑ k : Fin 4096, ent (s := ReferenceIdeal.S4096x4096) x (ix2 R k) * ent (s := ReferenceIdeal.S4096x2048) w (ix2 k Q)) 0 := by
  show max _ (Ideal.ofBits .f32 0x00000000#32) = _
  rw [Ideal.ofBits_zero_f32]
  refine congrArg (fun a : EReal => max a 0) ?_
  refine (Ideal.matmul_plain_apply (M := 4096) (K := 4096) (N := 2048) (φ₁ := .f32) (φ₂ := .f32) none x w (fun _ => (0 : EReal)) R Q).trans ?_
  exact zero_add _

/-- A finished result, the operands being blocks of the whole ones, is the reference's. -/
theorem Final.eq_whole {P : Ops Ideal} {c : Dev KernelIdeal.nD} {f : (KernelIdeal.main_v1 : Ref KernelIdeal.sig .tc).ty.Contents (Elt Ideal)}
    (hf : Final P c f) (x : Vec Ideal ReferenceIdeal.S4096x4096 .f32) (w : Vec Ideal ReferenceIdeal.S4096x2048 .f32)
    (hx : ∀ d, P.x d = Layout.block ⟨2, ![4096, 1024]⟩ ⟨2, ![4096, 4096]⟩ 1 4 d x)
    (hw : ∀ d, P.w d = Layout.block ⟨2, ![1024, 2048]⟩ ⟨2, ![4096, 2048]⟩ 0 4 d w) : f = whole x w := by
  have e (R : Fin 4096) (Q : Fin 2048) : ent (s := KernelIdeal.S4096x2048) f (ix2 R Q) = ent (s := ReferenceIdeal.S4096x2048) (whole x w) (ix2 R Q) := by
    rw [hf.apply P R Q, sum_devTerm P x w hx hw, whole_apply]
  funext j
  exact (congrArg (ent (s := KernelIdeal.S4096x2048) f) (eq_ix2 j)).trans
    ((e _ _).trans (congrArg (ent (s := ReferenceIdeal.S4096x2048) (whole x w)) (eq_ix2 j).symm))

section Launch

variable {F : FTy → Type} [FloatOps F]
variable (m : (ℓ : Loc KernelIdeal.nD KernelIdeal.τ KernelIdeal.sig) → Buf (Elt F) ℓ) (ρ : Dev KernelIdeal.nD → PrngReg) (c : Dev KernelIdeal.nD)

/-- The body's operands are the argument arrays. -/
theorem PM_x : (PM m ρ).x c = m ((c : Thread KernelIdeal.nD KernelIdeal.τ).loc KernelIdeal.main_arg0) := by
  funext j
  refine congrArg (m ((c : Thread KernelIdeal.nD KernelIdeal.τ).loc KernelIdeal.main_arg0)) (funext fun a => Fin.ext ?_)
  exact Pipeline.Window.rect_emb_val_of_index_zero KernelIdeal.win0_0 (0 : Fin 1) a rfl j
theorem PM_w : (PM m ρ).w c = m ((c : Thread KernelIdeal.nD KernelIdeal.τ).loc KernelIdeal.main_arg1) := by
  funext j
  refine congrArg (m ((c : Thread KernelIdeal.nD KernelIdeal.τ).loc KernelIdeal.main_arg1)) (funext fun a => Fin.ext ?_)
  exact Pipeline.Window.rect_emb_val_of_index_zero KernelIdeal.win0_1 (0 : Fin 1) a rfl j

end Launch

end Cert.RingIdeal

end
-- ==== Proof.lean ====
/- The claims: every program ends with its arguments as they were and every semaphore counter at zero; the idealization
   rewrote nothing; and over the extended reals each device's result is the reference's whole result. The runs are
   Proof/Run.lean's (and its copy Proof/Native/Run.lean's), the value Proof/Whole.lean's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Whole
public import proofs.«01_k».proof.Proof.Native.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's machine program ends with its arguments unchanged and its counters at zero. -/
theorem frame_kernel : Cert.quiescent_Kernel (hKernel := Cert.Kernel.Gen.facts) := fun m ρ _ =>
  (θ_run Cert.Kernel.defs _ _).mono (fun r h => ⟨fun c =>
      ⟨((h.1 c).1 (0 : Fin 2)).trans (Cert.RingNative.finalA_0 m ρ c), ((h.1 c).1 (1 : Fin 2)).trans (Cert.RingNative.finalA_1 m ρ c)⟩, h.2⟩)
    (Cert.RingNative.run_main (F := Bits) m ρ)

/-- So does its idealization. -/
theorem frame_ideal : Cert.quiescent_KernelIdeal (hKernelIdeal := Cert.KernelIdeal.Gen.facts) := fun m ρ _ =>
  (θ_run Cert.KernelIdeal.defs _ _).mono (fun r h => ⟨fun c =>
      ⟨((h.1 c).1 (0 : Fin 2)).trans (Cert.RingIdeal.finalA_0 m ρ c), ((h.1 c).1 (1 : Fin 2)).trans (Cert.RingIdeal.finalA_1 m ρ c)⟩, h.2⟩)
    (Cert.RingIdeal.run_main (F := Ideal) m ρ)

/-- The reference ends with its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's, their arguments being blocks of the reference's. -/
theorem value : Cert.algebraic_KernelIdeal_ReferenceIdeal (hKernelIdeal := Cert.KernelIdeal.Gen.facts)
    (hReferenceIdeal := Cert.ReferenceIdeal.Gen.facts) := fun m ρ m' ρ' _ hm =>
  ⟨Cert.RingIdeal.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c =>
      ⟨(h.1 c).2.eq_whole _ _ (fun d => (Cert.RingIdeal.PM_x m ρ d).trans (hm d).1) (fun d => (Cert.RingIdeal.PM_w m ρ d).trans (hm d).2),
        ((h.1 c).1 (0 : Fin 2)).trans (Cert.RingIdeal.finalA_0 m ρ c), ((h.1 c).1 (1 : Fin 2)).trans (Cert.RingIdeal.finalA_1 m ρ c)⟩)
      (Cert.RingIdeal.run_main (F := Ideal) m ρ),
    (θ_run Cert.ReferenceIdeal.defs _ _).mono (fun r h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
